-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x64x64 : S_.BroadcastsInDim S2x128x64x64 (![] : Fin 0 → Fin S2x128x64x64.rank)

variable [Facts]

def fn {F : FTy → Type} [FloatOps F] (main_arg0 : FVec F S2x128x512 .bf16) (main_arg1 : FVec F S512x256 .bf16) (main_arg2 : FVec F S2x128x64x64 .bf16) (main_arg3 : FVec F S2x128x64x64 .bf16) (main_arg4 : FVec F S256x512 .bf16) : IVec S2x128x512 1 × IVec S512x256 1 × IVec S2x128x64x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x128x64x64 .f32 := (extf .f32 · bitsLt_bf16_f32) main_arg2
  let main_v9 : FVec F S2x128x64x64 .f32 := Host.absf main_v8
  let main_cst_1 : FVec F S_ .f32 := constant S_ .f32 0x7F800000#32
  let main_v10 : FVec F S2x128x64x64 .f32 := broadcastInDim S2x128x64x64 ![] bcast_S_S2x128x64x64 main_cst_1
  let main_v11 : IVec S2x128x64x64 1 := cmpf .olt main_v9 main_v10
  (main_v3, main_v7, main_v11)
-- ==== Pre_finite_scores_ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x4096 : S_.BroadcastsInDim S512x4096 (![] : Fin 0 → Fin S512x4096.rank)
  bcast_S_S2x128x64x64 : S_.BroadcastsInDim S2x128x64x64 (![] : Fin 0 → Fin S2x128x64x64.rank)

variable [Facts]

def fn {F : FTy → Type} [FloatOps F] (main_arg0 : FVec F S2x128x512 .bf16) (main_arg1 : FVec F S512x4096 .bf16) (main_arg2 : FVec F S2x128x64x64 .bf16) (main_arg3 : FVec F S2x128x64x64 .bf16) (main_arg4 : FVec F S4096x512 .bf16) : IVec S2x128x512 1 × IVec S512x4096 1 × IVec S2x128x64x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x4096 .f32 := (extf .f32 · bitsLt_bf16_f32) main_arg1
  let main_v5 : FVec F S512x4096 .f32 := Host.absf main_v4
  let main_cst_0 : FVec F S_ .f32 := constant S_ .f32 0x7F800000#32
  let main_v6 : FVec F S512x4096 .f32 := broadcastInDim S512x4096 ![] bcast_S_S512x4096 main_cst_0
  let main_v7 : IVec S512x4096 1 := cmpf .olt main_v5 main_v6
  let main_v8 : FVec F S2x128x64x64 .f32 := (extf .f32 · bitsLt_bf16_f32) main_arg2
  let main_v9 : FVec F S2x128x64x64 .f32 := Host.absf main_v8
  let main_cst_1 : FVec F S_ .f32 := constant S_ .f32 0x7F800000#32
  let main_v10 : FVec F S2x128x64x64 .f32 := broadcastInDim S2x128x64x64 ![] bcast_S_S2x128x64x64 main_cst_1
  let main_v11 : IVec S2x128x64x64 1 := cmpf .olt main_v9 main_v10
  (main_v3, main_v7, main_v11)
-- ==== Kernel.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S_ : Shape := ⟨0, ![]⟩
abbrev S2x128x4x64 : Shape := ⟨4, ![2, 128, 4, 64]⟩
abbrev S2x128x256 : Shape := ⟨3, ![2, 128, 256]⟩
abbrev S16x16x512 : Shape := ⟨3, ![16, 16, 512]⟩
abbrev S16 : Shape := ⟨1, ![16]⟩
abbrev S256x256 : Shape := ⟨2, ![256, 256]⟩
abbrev S1x128x256 : Shape := ⟨3, ![1, 128, 256]⟩
abbrev S128x256 : Shape := ⟨2, ![128, 256]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x512 : Shape := ⟨2, ![128, 512]⟩
abbrev S1 : Shape := ⟨1, ![1]⟩
abbrev S1x16x512 : Shape := ⟨3, ![1, 16, 512]⟩
abbrev S16x512 : Shape := ⟨2, ![16, 512]⟩

abbrev nBuf : Space → Nat
  | .hbm => 35
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x64x64, .bf16⟩
  | .hbm, ⟨3, _⟩ => ⟨S2x128x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .bf16⟩
  | .hbm, ⟨22, _⟩ => ⟨S2x128x256, .bf16⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S2x128x4x64, .bf16⟩
  | .hbm, ⟨32, _⟩ => ⟨S2x128x256, .bf16⟩
  | .hbm, ⟨33, _⟩ => ⟨S256x512, .bf16⟩
  | .hbm, ⟨34, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x128x256, .bf16⟩
  | .local _ .vmem, ⟨3, _⟩ => ⟨S2x128x256, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S16x16x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_v13 : Ref sig .tc := ⟨.hbm, 27, rfl⟩
abbrev main_c_9 : Ref sig .tc := ⟨.hbm, 28, rfl⟩
abbrev main_c_10 : Ref sig .tc := ⟨.hbm, 29, rfl⟩
abbrev main_c_11 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 32 := Scalar.addi v2 c0_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_3 : BitVec 32 := 1#32
  let v7 : BitVec 32 := Scalar.muli v6 c1_i32_3
  let v8 : BitVec 32 := Scalar.addi c0_i32_4 v7
  v8.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v9 : BitVec 32 := Scalar.addi v2 c1_i32_5
  let c1_i32_6 : BitVec 32 := 1#32
  let v10 : BitVec 32 := Scalar.addi v9 c1_i32_6
  let c16_i32_7 : BitVec 32 := 16#32
  let v11 : BitVec 32 := Scalar.remsi v10 c16_i32_7
  let c1_i32_9 : BitVec 32 := 1#32
  let v12 : BitVec 32 := Scalar.muli v11 c1_i32_9
  let v13 : BitVec 32 := Scalar.addi c0_i32_10 v12
  v13.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v14 : BitVec 32 := Scalar.addi v2 c2_i32
  let c1_i32_11 : BitVec 32 := 1#32
  let v15 : BitVec 32 := Scalar.addi v14 c1_i32_11
  let c16_i32_12 : BitVec 32 := 16#32
  let v16 : BitVec 32 := Scalar.remsi v15 c16_i32_12
  let c1_i32_14 : BitVec 32 := 1#32
  let v17 : BitVec 32 := Scalar.muli v16 c1_i32_14
  let v18 : BitVec 32 := Scalar.addi c0_i32_15 v17
  v18.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v19 : BitVec 32 := Scalar.addi v2 c3_i32
  let c1_i32_16 : BitVec 32 := 1#32
  let v20 : BitVec 32 := Scalar.addi v19 c1_i32_16
  let c16_i32_17 : BitVec 32 := 16#32
  let v21 : BitVec 32 := Scalar.remsi v20 c16_i32_17
  let c1_i32_19 : BitVec 32 := 1#32
  let v22 : BitVec 32 := Scalar.muli v21 c1_i32_19
  let v23 : BitVec 32 := Scalar.addi c0_i32_20 v22
  v23.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v24 : BitVec 32 := Scalar.addi v2 c4_i32
  let c1_i32_21 : BitVec 32 := 1#32
  let v25 : BitVec 32 := Scalar.addi v24 c1_i32_21
  let c16_i32_22 : BitVec 32 := 16#32
  let v26 : BitVec 32 := Scalar.remsi v25 c16_i32_22
  let c1_i32_24 : BitVec 32 := 1#32
  let v27 : BitVec 32 := Scalar.muli v26 c1_i32_24
  let v28 : BitVec 32 := Scalar.addi c0_i32_25 v27
  v28.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v29 : BitVec 32 := Scalar.addi v2 c5_i32
  let c1_i32_26 : BitVec 32 := 1#32
  let v30 : BitVec 32 := Scalar.addi v29 c1_i32_26
  let c16_i32_27 : BitVec 32 := 16#32
  let v31 : BitVec 32 := Scalar.remsi v30 c16_i32_27
  let c1_i32_29 : BitVec 32 := 1#32
  let v32 : BitVec 32 := Scalar.muli v31 c1_i32_29
  let v33 : BitVec 32 := Scalar.addi c0_i32_30 v32
  v33.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v34 : BitVec 32 := Scalar.addi v2 c6_i32
  let c1_i32_31 : BitVec 32 := 1#32
  let v35 : BitVec 32 := Scalar.addi v34 c1_i32_31
  let c16_i32_32 : BitVec 32 := 16#32
  let v36 : BitVec 32 := Scalar.remsi v35 c16_i32_32
  let c1_i32_34 : BitVec 32 := 1#32
  let v37 : BitVec 32 := Scalar.muli v36 c1_i32_34
  let v38 : BitVec 32 := Scalar.addi c0_i32_35 v37
  v38.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v39 : BitVec 32 := Scalar.addi v2 c7_i32
  let c1_i32_36 : BitVec 32 := 1#32
  let v40 : BitVec 32 := Scalar.addi v39 c1_i32_36
  let c16_i32_37 : BitVec 32 := 16#32
  let v41 : BitVec 32 := Scalar.remsi v40 c16_i32_37
  let c1_i32_39 : BitVec 32 := 1#32
  let v42 : BitVec 32 := Scalar.muli v41 c1_i32_39
  let v43 : BitVec 32 := Scalar.addi c0_i32_40 v42
  v43.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v44 : BitVec 32 := Scalar.addi v2 c8_i32
  let c1_i32_41 : BitVec 32 := 1#32
  let v45 : BitVec 32 := Scalar.addi v44 c1_i32_41
  let c16_i32_42 : BitVec 32 := 16#32
  let v46 : BitVec 32 := Scalar.remsi v45 c16_i32_42
  let c1_i32_44 : BitVec 32 := 1#32
  let v47 : BitVec 32 := Scalar.muli v46 c1_i32_44
  let v48 : BitVec 32 := Scalar.addi c0_i32_45 v47
  v48.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v49 : BitVec 32 := Scalar.addi v2 c9_i32
  let c1_i32_46 : BitVec 32 := 1#32
  let v50 : BitVec 32 := Scalar.addi v49 c1_i32_46
  let c16_i32_47 : BitVec 32 := 16#32
  let v51 : BitVec 32 := Scalar.remsi v50 c16_i32_47
  let c1_i32_49 : BitVec 32 := 1#32
  let v52 : BitVec 32 := Scalar.muli v51 c1_i32_49
  let v53 : BitVec 32 := Scalar.addi c0_i32_50 v52
  v53.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v54 : BitVec 32 := Scalar.addi v2 c10_i32
  let c1_i32_51 : BitVec 32 := 1#32
  let v55 : BitVec 32 := Scalar.addi v54 c1_i32_51
  let c16_i32_52 : BitVec 32 := 16#32
  let v56 : BitVec 32 := Scalar.remsi v55 c16_i32_52
  let c1_i32_54 : BitVec 32 := 1#32
  let v57 : BitVec 32 := Scalar.muli v56 c1_i32_54
  let v58 : BitVec 32 := Scalar.addi c0_i32_55 v57
  v58.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v59 : BitVec 32 := Scalar.addi v2 c11_i32
  let c1_i32_56 : BitVec 32 := 1#32
  let v60 : BitVec 32 := Scalar.addi v59 c1_i32_56
  let c16_i32_57 : BitVec 32 := 16#32
  let v61 : BitVec 32 := Scalar.remsi v60 c16_i32_57
  let c1_i32_59 : BitVec 32 := 1#32
  let v62 : BitVec 32 := Scalar.muli v61 c1_i32_59
  let v63 : BitVec 32 := Scalar.addi c0_i32_60 v62
  v63.toNat
def k0_dev13 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v64 : BitVec 32 := Scalar.addi v2 c12_i32
  let c1_i32_61 : BitVec 32 := 1#32
  let v65 : BitVec 32 := Scalar.addi v64 c1_i32_61
  let c16_i32_62 : BitVec 32 := 16#32
  let v66 : BitVec 32 := Scalar.remsi v65 c16_i32_62
  let c1_i32_64 : BitVec 32 := 1#32
  let v67 : BitVec 32 := Scalar.muli v66 c1_i32_64
  let v68 : BitVec 32 := Scalar.addi c0_i32_65 v67
  v68.toNat
def k0_dev14 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v69 : BitVec 32 := Scalar.addi v2 c13_i32
  let c1_i32_66 : BitVec 32 := 1#32
  let v70 : BitVec 32 := Scalar.addi v69 c1_i32_66
  let c16_i32_67 : BitVec 32 := 16#32
  let v71 : BitVec 32 := Scalar.remsi v70 c16_i32_67
  let c1_i32_69 : BitVec 32 := 1#32
  let v72 : BitVec 32 := Scalar.muli v71 c1_i32_69
  let v73 : BitVec 32 := Scalar.addi c0_i32_70 v72
  v73.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v74 : BitVec 32 := Scalar.addi v2 c14_i32
  let c1_i32_71 : BitVec 32 := 1#32
  let v75 : BitVec 32 := Scalar.addi v74 c1_i32_71
  let c16_i32_72 : BitVec 32 := 16#32
  let v76 : BitVec 32 := Scalar.remsi v75 c16_i32_72
  let c1_i32_74 : BitVec 32 := 1#32
  let v77 : BitVec 32 := Scalar.muli v76 c1_i32_74
  let v78 : BitVec 32 := Scalar.addi c0_i32_75 v77
  v78.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_167 : BitVec 32 := 0#32
  let v365 : BitVec 1 := Scalar.cmpi .ne v2 c0_i32_167
  let v366 : BitVec 32 := Scalar.extui v365
  let c0_i32_168 : BitVec 32 := 0#32
  let v367 : BitVec 1 := Scalar.cmpi .ne v366 c0_i32_168
  v367

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev16 : Nat :=
  let c0_i32_453 : BitVec 32 := 0#32
  let c0_i32_451 : BitVec 32 := 0#32
  let c1_i32_452 : BitVec 32 := 1#32
  let v937 : BitVec 32 := Scalar.muli c0_i32_451 c1_i32_452
  let v938 : BitVec 32 := Scalar.addi c0_i32_453 v937
  v938.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_169 : BitVec 32 := 0#32
  let v368 : BitVec 1 := Scalar.cmpi .eq v2 c0_i32_169
  let v369 : BitVec 32 := Scalar.extui v368
  let c0_i32_170 : BitVec 32 := 0#32
  let v370 : BitVec 1 := Scalar.cmpi .ne v369 c0_i32_170
  v370

def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_452 : Index := 0#32
  let c0_453 : Index := 0#32
  ![v938.toNat, 0, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_171 : BitVec 32 := 1#32
  let v371 : BitVec 1 := Scalar.cmpi .ne v2 c1_i32_171
  let v372 : BitVec 32 := Scalar.extui v371
  let c0_i32_172 : BitVec 32 := 0#32
  let v373 : BitVec 1 := Scalar.cmpi .ne v372 c0_i32_172
  v373

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev17 : Nat :=
  let c0_i32_453 : BitVec 32 := 0#32
  let c1_i32_451 : BitVec 32 := 1#32
  let c1_i32_452 : BitVec 32 := 1#32
  let v937 : BitVec 32 := Scalar.muli c1_i32_451 c1_i32_452
  let v938 : BitVec 32 := Scalar.addi c0_i32_453 v937
  v938.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_173 : BitVec 32 := 1#32
  let v374 : BitVec 1 := Scalar.cmpi .eq v2 c1_i32_173
  let v375 : BitVec 32 := Scalar.extui v374
  let c0_i32_174 : BitVec 32 := 0#32
  let v376 : BitVec 1 := Scalar.cmpi .ne v375 c0_i32_174
  v376

def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_175 : BitVec 32 := 2#32
  let v377 : BitVec 1 := Scalar.cmpi .ne v2 c2_i32_175
  let v378 : BitVec 32 := Scalar.extui v377
  let c0_i32_176 : BitVec 32 := 0#32
  let v379 : BitVec 1 := Scalar.cmpi .ne v378 c0_i32_176
  v379

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev18 : Nat :=
  let c0_i32_453 : BitVec 32 := 0#32
  let c2_i32_451 : BitVec 32 := 2#32
  let c1_i32_452 : BitVec 32 := 1#32
  let v937 : BitVec 32 := Scalar.muli c2_i32_451 c1_i32_452
  let v938 : BitVec 32 := Scalar.addi c0_i32_453 v937
  v938.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_177 : BitVec 32 := 2#32
  let v380 : BitVec 1 := Scalar.cmpi .eq v2 c2_i32_177
  let v381 : BitVec 32 := Scalar.extui v380
  let c0_i32_178 : BitVec 32 := 0#32
  let v382 : BitVec 1 := Scalar.cmpi .ne v381 c0_i32_178
  v382

def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_179 : BitVec 32 := 3#32
  let v383 : BitVec 1 := Scalar.cmpi .ne v2 c3_i32_179
  let v384 : BitVec 32 := Scalar.extui v383
  let c0_i32_180 : BitVec 32 := 0#32
  let v385 : BitVec 1 := Scalar.cmpi .ne v384 c0_i32_180
  v385

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev19 : Nat :=
  let c0_i32_453 : BitVec 32 := 0#32
  let c3_i32_451 : BitVec 32 := 3#32
  let c1_i32_452 : BitVec 32 := 1#32
  let v937 : BitVec 32 := Scalar.muli c3_i32_451 c1_i32_452
  let v938 : BitVec 32 := Scalar.addi c0_i32_453 v937
  v938.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_181 : BitVec 32 := 3#32
  let v386 : BitVec 1 := Scalar.cmpi .eq v2 c3_i32_181
  let v387 : BitVec 32 := Scalar.extui v386
  let c0_i32_182 : BitVec 32 := 0#32
  let v388 : BitVec 1 := Scalar.cmpi .ne v387 c0_i32_182
  v388

def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_183 : BitVec 32 := 4#32
  let v389 : BitVec 1 := Scalar.cmpi .ne v2 c4_i32_183
  let v390 : BitVec 32 := Scalar.extui v389
  let c0_i32_184 : BitVec 32 := 0#32
  let v391 : BitVec 1 := Scalar.cmpi .ne v390 c0_i32_184
  v391

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev20 : Nat :=
  let c0_i32_453 : BitVec 32 := 0#32
  let c4_i32_451 : BitVec 32 := 4#32
  let c1_i32_452 : BitVec 32 := 1#32
  let v937 : BitVec 32 := Scalar.muli c4_i32_451 c1_i32_452
  let v938 : BitVec 32 := Scalar.addi c0_i32_453 v937
  v938.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_185 : BitVec 32 := 4#32
  let v392 : BitVec 1 := Scalar.cmpi .eq v2 c4_i32_185
  let v393 : BitVec 32 := Scalar.extui v392
  let c0_i32_186 : BitVec 32 := 0#32
  let v394 : BitVec 1 := Scalar.cmpi .ne v393 c0_i32_186
  v394

def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_187 : BitVec 32 := 5#32
  let v395 : BitVec 1 := Scalar.cmpi .ne v2 c5_i32_187
  let v396 : BitVec 32 := Scalar.extui v395
  let c0_i32_188 : BitVec 32 := 0#32
  let v397 : BitVec 1 := Scalar.cmpi .ne v396 c0_i32_188
  v397

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev21 : Nat :=
  let c0_i32_453 : BitVec 32 := 0#32
  let c5_i32_451 : BitVec 32 := 5#32
  let c1_i32_452 : BitVec 32 := 1#32
  let v937 : BitVec 32 := Scalar.muli c5_i32_451 c1_i32_452
  let v938 : BitVec 32 := Scalar.addi c0_i32_453 v937
  v938.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_189 : BitVec 32 := 5#32
  let v398 : BitVec 1 := Scalar.cmpi .eq v2 c5_i32_189
  let v399 : BitVec 32 := Scalar.extui v398
  let c0_i32_190 : BitVec 32 := 0#32
  let v400 : BitVec 1 := Scalar.cmpi .ne v399 c0_i32_190
  v400

def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_191 : BitVec 32 := 6#32
  let v401 : BitVec 1 := Scalar.cmpi .ne v2 c6_i32_191
  let v402 : BitVec 32 := Scalar.extui v401
  let c0_i32_192 : BitVec 32 := 0#32
  let v403 : BitVec 1 := Scalar.cmpi .ne v402 c0_i32_192
  v403

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev22 : Nat :=
  let c0_i32_453 : BitVec 32 := 0#32
  let c6_i32_451 : BitVec 32 := 6#32
  let c1_i32_452 : BitVec 32 := 1#32
  let v937 : BitVec 32 := Scalar.muli c6_i32_451 c1_i32_452
  let v938 : BitVec 32 := Scalar.addi c0_i32_453 v937
  v938.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_193 : BitVec 32 := 6#32
  let v404 : BitVec 1 := Scalar.cmpi .eq v2 c6_i32_193
  let v405 : BitVec 32 := Scalar.extui v404
  let c0_i32_194 : BitVec 32 := 0#32
  let v406 : BitVec 1 := Scalar.cmpi .ne v405 c0_i32_194
  v406

def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_195 : BitVec 32 := 7#32
  let v407 : BitVec 1 := Scalar.cmpi .ne v2 c7_i32_195
  let v408 : BitVec 32 := Scalar.extui v407
  let c0_i32_196 : BitVec 32 := 0#32
  let v409 : BitVec 1 := Scalar.cmpi .ne v408 c0_i32_196
  v409

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev23 : Nat :=
  let c0_i32_453 : BitVec 32 := 0#32
  let c7_i32_451 : BitVec 32 := 7#32
  let c1_i32_452 : BitVec 32 := 1#32
  let v937 : BitVec 32 := Scalar.muli c7_i32_451 c1_i32_452
  let v938 : BitVec 32 := Scalar.addi c0_i32_453 v937
  v938.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_197 : BitVec 32 := 7#32
  let v410 : BitVec 1 := Scalar.cmpi .eq v2 c7_i32_197
  let v411 : BitVec 32 := Scalar.extui v410
  let c0_i32_198 : BitVec 32 := 0#32
  let v412 : BitVec 1 := Scalar.cmpi .ne v411 c0_i32_198
  v412

def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_284 : BitVec 32 := 8#32
  let v690 : BitVec 1 := Scalar.cmpi .ne v2 c8_i32_284
  let v691 : BitVec 32 := Scalar.extui v690
  let c0_i32_285 : BitVec 32 := 0#32
  let v692 : BitVec 1 := Scalar.cmpi .ne v691 c0_i32_285
  v692

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev24 : Nat :=
  let c0_i32_453 : BitVec 32 := 0#32
  let c8_i32_451 : BitVec 32 := 8#32
  let c1_i32_452 : BitVec 32 := 1#32
  let v937 : BitVec 32 := Scalar.muli c8_i32_451 c1_i32_452
  let v938 : BitVec 32 := Scalar.addi c0_i32_453 v937
  v938.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_286 : BitVec 32 := 8#32
  let v693 : BitVec 1 := Scalar.cmpi .eq v2 c8_i32_286
  let v694 : BitVec 32 := Scalar.extui v693
  let c0_i32_287 : BitVec 32 := 0#32
  let v695 : BitVec 1 := Scalar.cmpi .ne v694 c0_i32_287
  v695

def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_452 : Index := 0#32
  let c0_453 : Index := 0#32
  ![v938.toNat, 0, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_288 : BitVec 32 := 9#32
  let v696 : BitVec 1 := Scalar.cmpi .ne v2 c9_i32_288
  let v697 : BitVec 32 := Scalar.extui v696
  let c0_i32_289 : BitVec 32 := 0#32
  let v698 : BitVec 1 := Scalar.cmpi .ne v697 c0_i32_289
  v698

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev25 : Nat :=
  let c0_i32_453 : BitVec 32 := 0#32
  let c9_i32_451 : BitVec 32 := 9#32
  let c1_i32_452 : BitVec 32 := 1#32
  let v937 : BitVec 32 := Scalar.muli c9_i32_451 c1_i32_452
  let v938 : BitVec 32 := Scalar.addi c0_i32_453 v937
  v938.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_290 : BitVec 32 := 9#32
  let v699 : BitVec 1 := Scalar.cmpi .eq v2 c9_i32_290
  let v700 : BitVec 32 := Scalar.extui v699
  let c0_i32_291 : BitVec 32 := 0#32
  let v701 : BitVec 1 := Scalar.cmpi .ne v700 c0_i32_291
  v701

def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_292 : BitVec 32 := 10#32
  let v702 : BitVec 1 := Scalar.cmpi .ne v2 c10_i32_292
  let v703 : BitVec 32 := Scalar.extui v702
  let c0_i32_293 : BitVec 32 := 0#32
  let v704 : BitVec 1 := Scalar.cmpi .ne v703 c0_i32_293
  v704

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev26 : Nat :=
  let c0_i32_453 : BitVec 32 := 0#32
  let c10_i32_451 : BitVec 32 := 10#32
  let c1_i32_452 : BitVec 32 := 1#32
  let v937 : BitVec 32 := Scalar.muli c10_i32_451 c1_i32_452
  let v938 : BitVec 32 := Scalar.addi c0_i32_453 v937
  v938.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_294 : BitVec 32 := 10#32
  let v705 : BitVec 1 := Scalar.cmpi .eq v2 c10_i32_294
  let v706 : BitVec 32 := Scalar.extui v705
  let c0_i32_295 : BitVec 32 := 0#32
  let v707 : BitVec 1 := Scalar.cmpi .ne v706 c0_i32_295
  v707

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_296 : BitVec 32 := 11#32
  let v708 : BitVec 1 := Scalar.cmpi .ne v2 c11_i32_296
  let v709 : BitVec 32 := Scalar.extui v708
  let c0_i32_297 : BitVec 32 := 0#32
  let v710 : BitVec 1 := Scalar.cmpi .ne v709 c0_i32_297
  v710

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev27 : Nat :=
  let c0_i32_453 : BitVec 32 := 0#32
  let c11_i32_451 : BitVec 32 := 11#32
  let c1_i32_452 : BitVec 32 := 1#32
  let v937 : BitVec 32 := Scalar.muli c11_i32_451 c1_i32_452
  let v938 : BitVec 32 := Scalar.addi c0_i32_453 v937
  v938.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_298 : BitVec 32 := 11#32
  let v711 : BitVec 1 := Scalar.cmpi .eq v2 c11_i32_298
  let v712 : BitVec 32 := Scalar.extui v711
  let c0_i32_299 : BitVec 32 := 0#32
  let v713 : BitVec 1 := Scalar.cmpi .ne v712 c0_i32_299
  v713

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_300 : BitVec 32 := 12#32
  let v714 : BitVec 1 := Scalar.cmpi .ne v2 c12_i32_300
  let v715 : BitVec 32 := Scalar.extui v714
  let c0_i32_301 : BitVec 32 := 0#32
  let v716 : BitVec 1 := Scalar.cmpi .ne v715 c0_i32_301
  v716

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev28 : Nat :=
  let c0_i32_453 : BitVec 32 := 0#32
  let c12_i32_451 : BitVec 32 := 12#32
  let c1_i32_452 : BitVec 32 := 1#32
  let v937 : BitVec 32 := Scalar.muli c12_i32_451 c1_i32_452
  let v938 : BitVec 32 := Scalar.addi c0_i32_453 v937
  v938.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_302 : BitVec 32 := 12#32
  let v717 : BitVec 1 := Scalar.cmpi .eq v2 c12_i32_302
  let v718 : BitVec 32 := Scalar.extui v717
  let c0_i32_303 : BitVec 32 := 0#32
  let v719 : BitVec 1 := Scalar.cmpi .ne v718 c0_i32_303
  v719

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_304 : BitVec 32 := 13#32
  let v720 : BitVec 1 := Scalar.cmpi .ne v2 c13_i32_304
  let v721 : BitVec 32 := Scalar.extui v720
  let c0_i32_305 : BitVec 32 := 0#32
  let v722 : BitVec 1 := Scalar.cmpi .ne v721 c0_i32_305
  v722

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev29 : Nat :=
  let c0_i32_453 : BitVec 32 := 0#32
  let c13_i32_451 : BitVec 32 := 13#32
  let c1_i32_452 : BitVec 32 := 1#32
  let v937 : BitVec 32 := Scalar.muli c13_i32_451 c1_i32_452
  let v938 : BitVec 32 := Scalar.addi c0_i32_453 v937
  v938.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_306 : BitVec 32 := 13#32
  let v723 : BitVec 1 := Scalar.cmpi .eq v2 c13_i32_306
  let v724 : BitVec 32 := Scalar.extui v723
  let c0_i32_307 : BitVec 32 := 0#32
  let v725 : BitVec 1 := Scalar.cmpi .ne v724 c0_i32_307
  v725

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_308 : BitVec 32 := 14#32
  let v726 : BitVec 1 := Scalar.cmpi .ne v2 c14_i32_308
  let v727 : BitVec 32 := Scalar.extui v726
  let c0_i32_309 : BitVec 32 := 0#32
  let v728 : BitVec 1 := Scalar.cmpi .ne v727 c0_i32_309
  v728

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev30 : Nat :=
  let c0_i32_453 : BitVec 32 := 0#32
  let c14_i32_451 : BitVec 32 := 14#32
  let c1_i32_452 : BitVec 32 := 1#32
  let v937 : BitVec 32 := Scalar.muli c14_i32_451 c1_i32_452
  let v938 : BitVec 32 := Scalar.addi c0_i32_453 v937
  v938.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_310 : BitVec 32 := 14#32
  let v729 : BitVec 1 := Scalar.cmpi .eq v2 c14_i32_310
  let v730 : BitVec 32 := Scalar.extui v729
  let c0_i32_311 : BitVec 32 := 0#32
  let v731 : BitVec 1 := Scalar.cmpi .ne v730 c0_i32_311
  v731

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_312 : BitVec 32 := 15#32
  let v732 : BitVec 1 := Scalar.cmpi .ne v2 c15_i32_312
  let v733 : BitVec 32 := Scalar.extui v732
  let c0_i32_313 : BitVec 32 := 0#32
  let v734 : BitVec 1 := Scalar.cmpi .ne v733 c0_i32_313
  v734

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_dev31 : Nat :=
  let c0_i32_453 : BitVec 32 := 0#32
  let c15_i32_451 : BitVec 32 := 15#32
  let c1_i32_452 : BitVec 32 := 1#32
  let v937 : BitVec 32 := Scalar.muli c15_i32_451 c1_i32_452
  let v938 : BitVec 32 := Scalar.addi c0_i32_453 v937
  v938.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_314 : BitVec 32 := 15#32
  let v735 : BitVec 1 := Scalar.cmpi .eq v2 c15_i32_314
  let v736 : BitVec 32 := Scalar.extui v735
  let c0_i32_315 : BitVec 32 := 0#32
  let v737 : BitVec 1 := Scalar.cmpi .ne v736 c0_i32_315
  v737

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v938 : Index := Scalar.indexCast v2
  let c0_451 : Index := 0#32
  let c0_452 : Index := 0#32
  ![v938.toNat, 0, 0]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_352 : BitVec 32 := 16#32
  let v790 : BitVec 32 := Scalar.muli v2 c16_i32_352
  let v791 : Index := Scalar.indexCast v790
  let c0_353 : Index := 0#32
  ![v791.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_354 : BitVec 32 := 0#32
  let v793 : BitVec 1 := Scalar.cmpi .ne v2 c0_i32_354
  let v794 : BitVec 32 := Scalar.extui v793
  let c0_i32_355 : BitVec 32 := 0#32
  let v795 : BitVec 1 := Scalar.cmpi .ne v794 c0_i32_355
  v795

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev32 : Nat :=
  let c0_i32_455 : BitVec 32 := 0#32
  let c0_i32_453 : BitVec 32 := 0#32
  let c1_i32_454 : BitVec 32 := 1#32
  let v939 : BitVec 32 := Scalar.muli c0_i32_453 c1_i32_454
  let v940 : BitVec 32 := Scalar.addi c0_i32_455 v939
  v940.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_356 : BitVec 32 := 1#32
  let v796 : BitVec 1 := Scalar.cmpi .ne v2 c1_i32_356
  let v797 : BitVec 32 := Scalar.extui v796
  let c0_i32_357 : BitVec 32 := 0#32
  let v798 : BitVec 1 := Scalar.cmpi .ne v797 c0_i32_357
  v798

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev33 : Nat :=
  let c0_i32_455 : BitVec 32 := 0#32
  let c1_i32_453 : BitVec 32 := 1#32
  let c1_i32_454 : BitVec 32 := 1#32
  let v939 : BitVec 32 := Scalar.muli c1_i32_453 c1_i32_454
  let v940 : BitVec 32 := Scalar.addi c0_i32_455 v939
  v940.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_358 : BitVec 32 := 2#32
  let v799 : BitVec 1 := Scalar.cmpi .ne v2 c2_i32_358
  let v800 : BitVec 32 := Scalar.extui v799
  let c0_i32_359 : BitVec 32 := 0#32
  let v801 : BitVec 1 := Scalar.cmpi .ne v800 c0_i32_359
  v801

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev34 : Nat :=
  let c0_i32_455 : BitVec 32 := 0#32
  let c2_i32_453 : BitVec 32 := 2#32
  let c1_i32_454 : BitVec 32 := 1#32
  let v939 : BitVec 32 := Scalar.muli c2_i32_453 c1_i32_454
  let v940 : BitVec 32 := Scalar.addi c0_i32_455 v939
  v940.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_360 : BitVec 32 := 3#32
  let v802 : BitVec 1 := Scalar.cmpi .ne v2 c3_i32_360
  let v803 : BitVec 32 := Scalar.extui v802
  let c0_i32_361 : BitVec 32 := 0#32
  let v804 : BitVec 1 := Scalar.cmpi .ne v803 c0_i32_361
  v804

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev35 : Nat :=
  let c0_i32_455 : BitVec 32 := 0#32
  let c3_i32_453 : BitVec 32 := 3#32
  let c1_i32_454 : BitVec 32 := 1#32
  let v939 : BitVec 32 := Scalar.muli c3_i32_453 c1_i32_454
  let v940 : BitVec 32 := Scalar.addi c0_i32_455 v939
  v940.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_362 : BitVec 32 := 4#32
  let v805 : BitVec 1 := Scalar.cmpi .ne v2 c4_i32_362
  let v806 : BitVec 32 := Scalar.extui v805
  let c0_i32_363 : BitVec 32 := 0#32
  let v807 : BitVec 1 := Scalar.cmpi .ne v806 c0_i32_363
  v807

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev36 : Nat :=
  let c0_i32_455 : BitVec 32 := 0#32
  let c4_i32_453 : BitVec 32 := 4#32
  let c1_i32_454 : BitVec 32 := 1#32
  let v939 : BitVec 32 := Scalar.muli c4_i32_453 c1_i32_454
  let v940 : BitVec 32 := Scalar.addi c0_i32_455 v939
  v940.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_364 : BitVec 32 := 5#32
  let v808 : BitVec 1 := Scalar.cmpi .ne v2 c5_i32_364
  let v809 : BitVec 32 := Scalar.extui v808
  let c0_i32_365 : BitVec 32 := 0#32
  let v810 : BitVec 1 := Scalar.cmpi .ne v809 c0_i32_365
  v810

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev37 : Nat :=
  let c0_i32_455 : BitVec 32 := 0#32
  let c5_i32_453 : BitVec 32 := 5#32
  let c1_i32_454 : BitVec 32 := 1#32
  let v939 : BitVec 32 := Scalar.muli c5_i32_453 c1_i32_454
  let v940 : BitVec 32 := Scalar.addi c0_i32_455 v939
  v940.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_366 : BitVec 32 := 6#32
  let v811 : BitVec 1 := Scalar.cmpi .ne v2 c6_i32_366
  let v812 : BitVec 32 := Scalar.extui v811
  let c0_i32_367 : BitVec 32 := 0#32
  let v813 : BitVec 1 := Scalar.cmpi .ne v812 c0_i32_367
  v813

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev38 : Nat :=
  let c0_i32_455 : BitVec 32 := 0#32
  let c6_i32_453 : BitVec 32 := 6#32
  let c1_i32_454 : BitVec 32 := 1#32
  let v939 : BitVec 32 := Scalar.muli c6_i32_453 c1_i32_454
  let v940 : BitVec 32 := Scalar.addi c0_i32_455 v939
  v940.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_368 : BitVec 32 := 7#32
  let v814 : BitVec 1 := Scalar.cmpi .ne v2 c7_i32_368
  let v815 : BitVec 32 := Scalar.extui v814
  let c0_i32_369 : BitVec 32 := 0#32
  let v816 : BitVec 1 := Scalar.cmpi .ne v815 c0_i32_369
  v816

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev39 : Nat :=
  let c0_i32_455 : BitVec 32 := 0#32
  let c7_i32_453 : BitVec 32 := 7#32
  let c1_i32_454 : BitVec 32 := 1#32
  let v939 : BitVec 32 := Scalar.muli c7_i32_453 c1_i32_454
  let v940 : BitVec 32 := Scalar.addi c0_i32_455 v939
  v940.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_370 : BitVec 32 := 8#32
  let v817 : BitVec 1 := Scalar.cmpi .ne v2 c8_i32_370
  let v818 : BitVec 32 := Scalar.extui v817
  let c0_i32_371 : BitVec 32 := 0#32
  let v819 : BitVec 1 := Scalar.cmpi .ne v818 c0_i32_371
  v819

def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev40 : Nat :=
  let c0_i32_455 : BitVec 32 := 0#32
  let c8_i32_453 : BitVec 32 := 8#32
  let c1_i32_454 : BitVec 32 := 1#32
  let v939 : BitVec 32 := Scalar.muli c8_i32_453 c1_i32_454
  let v940 : BitVec 32 := Scalar.addi c0_i32_455 v939
  v940.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_372 : BitVec 32 := 9#32
  let v820 : BitVec 1 := Scalar.cmpi .ne v2 c9_i32_372
  let v821 : BitVec 32 := Scalar.extui v820
  let c0_i32_373 : BitVec 32 := 0#32
  let v822 : BitVec 1 := Scalar.cmpi .ne v821 c0_i32_373
  v822

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev41 : Nat :=
  let c0_i32_455 : BitVec 32 := 0#32
  let c9_i32_453 : BitVec 32 := 9#32
  let c1_i32_454 : BitVec 32 := 1#32
  let v939 : BitVec 32 := Scalar.muli c9_i32_453 c1_i32_454
  let v940 : BitVec 32 := Scalar.addi c0_i32_455 v939
  v940.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_374 : BitVec 32 := 10#32
  let v823 : BitVec 1 := Scalar.cmpi .ne v2 c10_i32_374
  let v824 : BitVec 32 := Scalar.extui v823
  let c0_i32_375 : BitVec 32 := 0#32
  let v825 : BitVec 1 := Scalar.cmpi .ne v824 c0_i32_375
  v825

def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev42 : Nat :=
  let c0_i32_455 : BitVec 32 := 0#32
  let c10_i32_453 : BitVec 32 := 10#32
  let c1_i32_454 : BitVec 32 := 1#32
  let v939 : BitVec 32 := Scalar.muli c10_i32_453 c1_i32_454
  let v940 : BitVec 32 := Scalar.addi c0_i32_455 v939
  v940.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_376 : BitVec 32 := 11#32
  let v826 : BitVec 1 := Scalar.cmpi .ne v2 c11_i32_376
  let v827 : BitVec 32 := Scalar.extui v826
  let c0_i32_377 : BitVec 32 := 0#32
  let v828 : BitVec 1 := Scalar.cmpi .ne v827 c0_i32_377
  v828

def k0_off72 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev43 : Nat :=
  let c0_i32_455 : BitVec 32 := 0#32
  let c11_i32_453 : BitVec 32 := 11#32
  let c1_i32_454 : BitVec 32 := 1#32
  let v939 : BitVec 32 := Scalar.muli c11_i32_453 c1_i32_454
  let v940 : BitVec 32 := Scalar.addi c0_i32_455 v939
  v940.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_378 : BitVec 32 := 12#32
  let v829 : BitVec 1 := Scalar.cmpi .ne v2 c12_i32_378
  let v830 : BitVec 32 := Scalar.extui v829
  let c0_i32_379 : BitVec 32 := 0#32
  let v831 : BitVec 1 := Scalar.cmpi .ne v830 c0_i32_379
  v831

def k0_off74 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev44 : Nat :=
  let c0_i32_455 : BitVec 32 := 0#32
  let c12_i32_453 : BitVec 32 := 12#32
  let c1_i32_454 : BitVec 32 := 1#32
  let v939 : BitVec 32 := Scalar.muli c12_i32_453 c1_i32_454
  let v940 : BitVec 32 := Scalar.addi c0_i32_455 v939
  v940.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_380 : BitVec 32 := 13#32
  let v832 : BitVec 1 := Scalar.cmpi .ne v2 c13_i32_380
  let v833 : BitVec 32 := Scalar.extui v832
  let c0_i32_381 : BitVec 32 := 0#32
  let v834 : BitVec 1 := Scalar.cmpi .ne v833 c0_i32_381
  v834

def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev45 : Nat :=
  let c0_i32_455 : BitVec 32 := 0#32
  let c13_i32_453 : BitVec 32 := 13#32
  let c1_i32_454 : BitVec 32 := 1#32
  let v939 : BitVec 32 := Scalar.muli c13_i32_453 c1_i32_454
  let v940 : BitVec 32 := Scalar.addi c0_i32_455 v939
  v940.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_382 : BitVec 32 := 14#32
  let v835 : BitVec 1 := Scalar.cmpi .ne v2 c14_i32_382
  let v836 : BitVec 32 := Scalar.extui v835
  let c0_i32_383 : BitVec 32 := 0#32
  let v837 : BitVec 1 := Scalar.cmpi .ne v836 c0_i32_383
  v837

def k0_off78 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev46 : Nat :=
  let c0_i32_455 : BitVec 32 := 0#32
  let c14_i32_453 : BitVec 32 := 14#32
  let c1_i32_454 : BitVec 32 := 1#32
  let v939 : BitVec 32 := Scalar.muli c14_i32_453 c1_i32_454
  let v940 : BitVec 32 := Scalar.addi c0_i32_455 v939
  v940.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_384 : BitVec 32 := 15#32
  let v838 : BitVec 1 := Scalar.cmpi .ne v2 c15_i32_384
  let v839 : BitVec 32 := Scalar.extui v838
  let c0_i32_385 : BitVec 32 := 0#32
  let v840 : BitVec 1 := Scalar.cmpi .ne v839 c0_i32_385
  v840

def k0_off80 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_451 : BitVec 32 := 16#32
  let v938 : BitVec 32 := Scalar.muli v2 c16_i32_451
  let c0_i32_456 : BitVec 32 := 0#32
  ![v938.toNat, 0]
def k0_dev47 : Nat :=
  let c0_i32_455 : BitVec 32 := 0#32
  let c15_i32_453 : BitVec 32 := 15#32
  let c1_i32_454 : BitVec 32 := 1#32
  let v939 : BitVec 32 := Scalar.muli c15_i32_453 c1_i32_454
  let v940 : BitVec 32 := Scalar.addi c0_i32_455 v939
  v940.toNat
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_418 : BitVec 32 := 0#32
  let v889 : BitVec 1 := Scalar.cmpi .ne v2 c0_i32_418
  let v890 : BitVec 32 := Scalar.extui v889
  let c0_i32_419 : BitVec 32 := 0#32
  let v891 : BitVec 1 := Scalar.cmpi .ne v890 c0_i32_419
  v891

def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_455 : BitVec 32 := 0#32
  let c0_i32_456 : BitVec 32 := 0#32
  ![v2.toNat, 0, 0]
def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_457 : BitVec 32 := 16#32
  let v942 : BitVec 32 := Scalar.muli v2 c16_i32_457
  let c0_i32_462 : BitVec 32 := 0#32
  ![v942.toNat, 0]
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_420 : BitVec 32 := 1#32
  let v892 : BitVec 1 := Scalar.cmpi .ne v2 c1_i32_420
  let v893 : BitVec 32 := Scalar.extui v892
  let c0_i32_421 : BitVec 32 := 0#32
  let v894 : BitVec 1 := Scalar.cmpi .ne v893 c0_i32_421
  v894

def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_455 : BitVec 32 := 0#32
  let c0_i32_456 : BitVec 32 := 0#32
  ![v2.toNat, 0, 0]
def k0_off85 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_457 : BitVec 32 := 16#32
  let v942 : BitVec 32 := Scalar.muli v2 c16_i32_457
  let c0_i32_462 : BitVec 32 := 0#32
  ![v942.toNat, 0]
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_422 : BitVec 32 := 2#32
  let v895 : BitVec 1 := Scalar.cmpi .ne v2 c2_i32_422
  let v896 : BitVec 32 := Scalar.extui v895
  let c0_i32_423 : BitVec 32 := 0#32
  let v897 : BitVec 1 := Scalar.cmpi .ne v896 c0_i32_423
  v897

def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off87 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_424 : BitVec 32 := 3#32
  let v898 : BitVec 1 := Scalar.cmpi .ne v2 c3_i32_424
  let v899 : BitVec 32 := Scalar.extui v898
  let c0_i32_425 : BitVec 32 := 0#32
  let v900 : BitVec 1 := Scalar.cmpi .ne v899 c0_i32_425
  v900

def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off89 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_426 : BitVec 32 := 4#32
  let v901 : BitVec 1 := Scalar.cmpi .ne v2 c4_i32_426
  let v902 : BitVec 32 := Scalar.extui v901
  let c0_i32_427 : BitVec 32 := 0#32
  let v903 : BitVec 1 := Scalar.cmpi .ne v902 c0_i32_427
  v903

def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_455 : BitVec 32 := 0#32
  let c0_i32_456 : BitVec 32 := 0#32
  ![v2.toNat, 0, 0]
def k0_off91 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_457 : BitVec 32 := 16#32
  let v942 : BitVec 32 := Scalar.muli v2 c16_i32_457
  let c0_i32_462 : BitVec 32 := 0#32
  ![v942.toNat, 0]
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_428 : BitVec 32 := 5#32
  let v904 : BitVec 1 := Scalar.cmpi .ne v2 c5_i32_428
  let v905 : BitVec 32 := Scalar.extui v904
  let c0_i32_429 : BitVec 32 := 0#32
  let v906 : BitVec 1 := Scalar.cmpi .ne v905 c0_i32_429
  v906

def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off93 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_430 : BitVec 32 := 6#32
  let v907 : BitVec 1 := Scalar.cmpi .ne v2 c6_i32_430
  let v908 : BitVec 32 := Scalar.extui v907
  let c0_i32_431 : BitVec 32 := 0#32
  let v909 : BitVec 1 := Scalar.cmpi .ne v908 c0_i32_431
  v909

def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off95 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_432 : BitVec 32 := 7#32
  let v910 : BitVec 1 := Scalar.cmpi .ne v2 c7_i32_432
  let v911 : BitVec 32 := Scalar.extui v910
  let c0_i32_433 : BitVec 32 := 0#32
  let v912 : BitVec 1 := Scalar.cmpi .ne v911 c0_i32_433
  v912

def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off97 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_434 : BitVec 32 := 8#32
  let v913 : BitVec 1 := Scalar.cmpi .ne v2 c8_i32_434
  let v914 : BitVec 32 := Scalar.extui v913
  let c0_i32_435 : BitVec 32 := 0#32
  let v915 : BitVec 1 := Scalar.cmpi .ne v914 c0_i32_435
  v915

def k0_off98 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off99 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_436 : BitVec 32 := 9#32
  let v916 : BitVec 1 := Scalar.cmpi .ne v2 c9_i32_436
  let v917 : BitVec 32 := Scalar.extui v916
  let c0_i32_437 : BitVec 32 := 0#32
  let v918 : BitVec 1 := Scalar.cmpi .ne v917 c0_i32_437
  v918

def k0_off100 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off101 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_438 : BitVec 32 := 10#32
  let v919 : BitVec 1 := Scalar.cmpi .ne v2 c10_i32_438
  let v920 : BitVec 32 := Scalar.extui v919
  let c0_i32_439 : BitVec 32 := 0#32
  let v921 : BitVec 1 := Scalar.cmpi .ne v920 c0_i32_439
  v921

def k0_off102 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off103 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_440 : BitVec 32 := 11#32
  let v922 : BitVec 1 := Scalar.cmpi .ne v2 c11_i32_440
  let v923 : BitVec 32 := Scalar.extui v922
  let c0_i32_441 : BitVec 32 := 0#32
  let v924 : BitVec 1 := Scalar.cmpi .ne v923 c0_i32_441
  v924

def k0_off104 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off105 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_442 : BitVec 32 := 12#32
  let v925 : BitVec 1 := Scalar.cmpi .ne v2 c12_i32_442
  let v926 : BitVec 32 := Scalar.extui v925
  let c0_i32_443 : BitVec 32 := 0#32
  let v927 : BitVec 1 := Scalar.cmpi .ne v926 c0_i32_443
  v927

def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off107 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_444 : BitVec 32 := 13#32
  let v928 : BitVec 1 := Scalar.cmpi .ne v2 c13_i32_444
  let v929 : BitVec 32 := Scalar.extui v928
  let c0_i32_445 : BitVec 32 := 0#32
  let v930 : BitVec 1 := Scalar.cmpi .ne v929 c0_i32_445
  v930

def k0_off108 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off109 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_446 : BitVec 32 := 14#32
  let v931 : BitVec 1 := Scalar.cmpi .ne v2 c14_i32_446
  let v932 : BitVec 32 := Scalar.extui v931
  let c0_i32_447 : BitVec 32 := 0#32
  let v933 : BitVec 1 := Scalar.cmpi .ne v932 c0_i32_447
  v933

def k0_off110 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off111 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_448 : BitVec 32 := 15#32
  let v934 : BitVec 1 := Scalar.cmpi .ne v2 c15_i32_448
  let v935 : BitVec 32 := Scalar.extui v934
  let c0_i32_449 : BitVec 32 := 0#32
  let v936 : BitVec 1 := Scalar.cmpi .ne v935 c0_i32_449
  v936

def k0_off112 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_454 : BitVec 32 := 0#32
  let c0_i32_455 : BitVec 32 := 0#32
  ![v2.toNat, 0, 0]
def k0_off113 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v942 : BitVec 32 := Scalar.muli v2 c16_i32_456
  let c0_i32_461 : BitVec 32 := 0#32
  ![v942.toNat, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S2x128x4096 : Shape := ⟨3, ![2, 128, 4096]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x64x128x128 : Shape := ⟨4, ![2, 64, 128, 128]⟩
abbrev S1x1x128x128 : Shape := ⟨4, ![1, 1, 128, 128]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x4096, .bf16⟩
  | .hbm, ⟨2, _⟩ => ⟨S2x128x64x64, .bf16⟩
  | .hbm, ⟨3, _⟩ => ⟨S2x128x64x64, .bf16⟩
  | .hbm, ⟨4, _⟩ => ⟨S4096x512, .bf16⟩
  | .hbm, ⟨5, _⟩ => ⟨S2x128x512, .f32⟩
  | .hbm, ⟨6, _⟩ => ⟨S512x4096, .f32⟩
  | .hbm, ⟨7, _⟩ => ⟨S2x128x64x64, .f32⟩
  | .hbm, ⟨8, _⟩ => ⟨S2x128x64x64, .f32⟩
  | .hbm, ⟨9, _⟩ => ⟨S4096x512, .f32⟩
  | .hbm, ⟨10, _⟩ => ⟨S2x128x4096, .f32⟩
  | .hbm, ⟨11, _⟩ => ⟨S2x128x64x64, .f32⟩
  | .hbm, ⟨12, _⟩ => ⟨S128, .i32⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S128, .i1⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S128, .i32⟩
  | .hbm, ⟨33, _⟩ => ⟨S_, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S1x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S2x64x128x128, .f32⟩
  | .hbm, ⟨56, _⟩ => ⟨S_, .f32⟩
  | .hbm, ⟨57, _⟩ => ⟨S2x64x128x128, .f32⟩
  | .hbm, ⟨58, _⟩ => ⟨S2x64x128x128, .f32⟩
  | .hbm, ⟨59, _⟩ => ⟨S1x1x128x128, .i1⟩
  | .hbm, ⟨60, _⟩ => ⟨S_, .f32⟩
  | .hbm, ⟨61, _⟩ => ⟨S_, .f32⟩
  | .hbm, ⟨62, _⟩ => ⟨S2x64x128x128, .i1⟩
  | .hbm, ⟨63, _⟩ => ⟨S2x64x128x128, .f32⟩
  | .hbm, ⟨64, _⟩ => ⟨S2x64x128x128, .f32⟩
  | .hbm, ⟨65, _⟩ => ⟨S_, .f32⟩
  | .hbm, ⟨66, _⟩ => ⟨S2x64x128, .f32⟩
  | .hbm, ⟨67, _⟩ => ⟨S2x64x128x1, .f32⟩
  | .hbm, ⟨68, _⟩ => ⟨S2x64x128x128, .f32⟩
  | .hbm, ⟨69, _⟩ => ⟨S2x64x128x128, .f32⟩
  | .hbm, ⟨70, _⟩ => ⟨S2x64x128x128, .f32⟩
  | .hbm, ⟨71, _⟩ => ⟨S_, .i1⟩
  | .hbm, ⟨72, _⟩ => ⟨S128, .i1⟩
  | .hbm, ⟨73, _⟩ => ⟨S1x1x128x1, .i1⟩
  | .hbm, ⟨74, _⟩ => ⟨S_, .f32⟩
  | .hbm, ⟨75, _⟩ => ⟨S2x64x128, .f32⟩
  | .hbm, ⟨76, _⟩ => ⟨S2x64x128x1, .f32⟩
  | .hbm, ⟨77, _⟩ => ⟨S_, .f32⟩
  | .hbm, ⟨78, _⟩ => ⟨S_, .f32⟩
  | .hbm, ⟨79, _⟩ => ⟨S2x64x128x1, .i1⟩
  | .hbm, ⟨80, _⟩ => ⟨S2x64x128x1, .f32⟩
  | .hbm, ⟨81, _⟩ => ⟨S2x64x128x1, .f32⟩
  | .hbm, ⟨82, _⟩ => ⟨S2x64x128x128, .f32⟩
  | .hbm, ⟨83, _⟩ => ⟨S2x64x128x128, .f32⟩
  | .hbm, ⟨84, _⟩ => ⟨S1x1x128x1, .i1⟩
  | .hbm, ⟨85, _⟩ => ⟨S_, .f32⟩
  | .hbm, ⟨86, _⟩ => ⟨S_, .f32⟩
  | .hbm, ⟨87, _⟩ => ⟨S2x64x128x128, .i1⟩
  | .hbm, ⟨88, _⟩ => ⟨S2x64x128x128, .f32⟩
  | .hbm, ⟨89, _⟩ => ⟨S2x64x128x128, .f32⟩
  | .hbm, ⟨90, _⟩ => ⟨S2x64x64x128, .f32⟩
  | .hbm, ⟨91, _⟩ => ⟨S2x128x64x64, .f32⟩
  | .hbm, ⟨92, _⟩ => ⟨S2x128x4096, .f32⟩
  | .hbm, ⟨93, _⟩ => ⟨S2x128x512, .f32⟩
  | .hbm, ⟨94, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩

abbrev nD : Nat := 1
abbrev τ : Topo := Topo.v7x

variable {F : FTy → Type} [FloatOps F]
-- ==== Proof.Blocks.lean ====
module
public import proofs.«01_k».proof.Proof.Gen.KernelIdeal.Skeleton
public import proofs.«01_k».proof.Proof.Gen.KernelIdeal.Points
/-!
The kernel's body, printed as a long list of guarded statements, read as six runs over the sixteen devices: every guarded
statement is one of six blocks at a device `d` and a peer `s`.
-/
@[expose] public section
noncomputable section
namespace Cert.KernelIdeal
open Idealize.ShloMosaic Idealize.ShloMosaic.TcCoe
open Idealize.SL Idealize.SL.Sem
open Cert.KernelIdeal.Gen
variable {F : FTy → Type} [FloatOps F]

/-- Programs of this kernel's core. -/
abbrev PR (F : FTy → Type) [FloatOps F] (α : Type) := Prog (TpuEff nD τ sig (Elt F) Λ₀ .tc) α

/-! ## Where the chunks lie -/

theorem inSem (s : Fin 16) : ∀ a, (![s.val] : Fin 1 → Nat) a + S1.size a ≤ S16.size a := by revert s; decide
theorem inRow (s : Fin 16) : ∀ a, (![16 * s.val, 0] : Fin 2 → Nat) a + S16x512.size a ≤ S256x512.size a := by revert s; decide
theorem inSlot (s : Fin 16) : ∀ a, (![s.val, 0, 0] : Fin 3 → Nat) a + S1x16x512.size a ≤ S16x16x512.size a := by revert s; decide

/-- Rows `16 s … 16 s + 15`. -/
abbrev rowRect (s : Fin 16) : Rect S256x512 := Rect.unit (s := S256x512) ![16 * s.val, 0] S16x512.size (inRow s)
/-- Slot `s`. -/
abbrev slotRect (s : Fin 16) : Rect S16x16x512 := Rect.unit (s := S16x16x512) ![s.val, 0, 0] S1x16x512.size (inSlot s)

theorem rowWords (s : Fin 16) : (rowRect s).WholeWords (EltTy.packing .bf16) := by revert s; decide +kernel
theorem slotWords (s : Fin 16) : (slotRect s).WholeWords (EltTy.packing .bf16) := by revert s; decide +kernel
theorem slotPacked (s : Fin 16) : (slotRect s).PackedRows (EltTy.packing .bf16) := by revert s; decide +kernel
theorem rowPacked (s : Fin 16) : (rowRect s).PackedRows (EltTy.packing .bf16) := by revert s; decide +kernel

theorem inSem' {o : Fin 1 → ℕ} {s : Fin 16} (e : o = ![s.val]) : ∀ a, o a + S1.size a ≤ S16.size a := e ▸ inSem s
theorem inRow' {o : Fin 2 → ℕ} {s : Fin 16} (e : o = ![16 * s.val, 0]) : ∀ a, o a + S16x512.size a ≤ S256x512.size a := e ▸ inRow s
theorem inSlot' {o : Fin 3 → ℕ} {s : Fin 16} (e : o = ![s.val, 0, 0]) : ∀ a, o a + S1x16x512.size a ≤ S16x16x512.size a := e ▸ inSlot s
theorem inDev' {n : ℕ} {s : Fin 16} (e : n = s.val) : n < nD := e ▸ s.isLt
theorem rowWords' {o : Fin 2 → ℕ} {s : Fin 16} (e : o = ![16 * s.val, 0]) :
    (Rect.unit (s := S256x512) o S16x512.size (inRow' e)).WholeWords (EltTy.packing .bf16) := by subst e; exact rowWords s
theorem slotWords' {o : Fin 3 → ℕ} {s : Fin 16} (e : o = ![s.val, 0, 0]) :
    (Rect.unit (s := S16x16x512) o S1x16x512.size (inSlot' e)).WholeWords (EltTy.packing .bf16) := by subst e; exact slotWords s
theorem slotPacked' {o : Fin 3 → ℕ} {s : Fin 16} (e : o = ![s.val, 0, 0]) :
    (Rect.unit (s := S16x16x512) o S1x16x512.size (inSlot' e)).PackedRows (EltTy.packing .bf16) := by subst e; exact slotPacked s
theorem rowPacked' {s : Fin 16} {o : Fin 2 → ℕ} (e : o = ![16 * s.val, 0]) :
    (Rect.unit (s := S256x512) o S16x512.size (inRow' e)).PackedRows (EltTy.packing .bf16) := by subst e; exact rowPacked s

/-- Semaphore `s` of an array of sixteen. -/
abbrev semOf (G : DmaSems sig S16) (s : Fin 16) : DmaSem sig :=
  ((G.slice (Rect.unit (s := S16) ![s.val] S1.size (inSem s))).squeeze S_ squeezes_S1_S_).sem
/-- Rows `16 s … 16 s + 15` of a 256x512 buffer. -/
abbrev rowsOf (A : Memref sig .tc .vmem S256x512 .bf16) (s : Fin 16) : Memref sig .tc .vmem S16x512 .bf16 :=
  A.slice (rowRect s) (fun _ => rfl)
/-- Slot `s` of the receive buffer, as 16 rows. -/
abbrev slotOf (B : Memref sig .tc .vmem S16x16x512 .bf16) (s : Fin 16) : Memref sig .tc .vmem S16x512 .bf16 :=
  (B.slice (slotRect s) (fun _ => rfl) : Memref sig .tc .vmem S1x16x512 .bf16).squeeze S16x512 squeezes_S1x16x512_S16x512

/-! ## The blocks -/

section Blocks
variable (O : Memref sig .tc .vmem S256x512 .bf16) (hO : O.IsWhole) (A : Memref sig .tc .vmem S256x512 .bf16) (hA : A.IsWhole)
  (B : Memref sig .tc .vmem S16x16x512 .bf16) (hB : B.IsWhole) (G1 G2 G3 G4 : DmaSems sig S16) (d s : Fin 16)

/-- Send chunk `s` of the partial product to device `s`, into its slot `d`. -/
def sendBlk : PR F PUnit :=
  if d ≠ s then
    Prog.lift (.enqueueDma (rowsOf A s) (.remote (Dev.tc (s : Dev nD)) (slotOf B d) (.dma (semOf G1 s))) (.dma (semOf G2 d))
      (hA.wordExact_slice rfl _ (rowWords s)) ((hB.wordExact_slice rfl _ (slotWords d)).reshape _ _) ⟨⟨rfl, Or.inl rfl⟩, trivial⟩)
  else pure ⟨⟩

/-- The own chunk goes to the own slot by a load and a store. -/
def ownBlk : PR F PUnit :=
  if d = s then do
    let v : Vec F S16x512 .bf16 ← Prog.lift (.load A (rowRect s).toLoadRect (View.loadsAt_vmem h_S16x512))
    let _ : Vec F S1x16x512 .bf16 ← Prog.lift (.load B (slotRect d).toLoadRect (View.loadsAt_vmem h_S1x16x512))
    Prog.lift (.store B (slotRect d) (k0_pay27 v) Finset.univ
      (View.stores_vmem h_S1x16x512 (hB.storeExact_slice rfl _ (slotPacked d)) (fun _ => rfl)) (.inl rfl))
  else pure ⟨⟩

/-- Wait for the chunk of device `s` in slot `s`. -/
def rsWaitBlk : PR F PUnit :=
  if d ≠ s then
    Prog.lift (.waitDma2 (semOf G2 s) (rowsOf A 0) (slotOf B s) (hA.wordExact_slice rfl _ (rowWords 0))
      ((hB.wordExact_slice rfl _ (slotWords s)).reshape _ _))
  else pure ⟨⟩

/-- Send the own reduced rows to device `s`. -/
def agSendBlk : PR F PUnit :=
  if d ≠ s then
    Prog.lift (.enqueueDma (rowsOf O d) (.remote (Dev.tc (s : Dev nD)) (rowsOf O d) (.dma (semOf G3 s))) (.dma (semOf G4 d))
      (hO.wordExact_slice rfl _ (rowWords d)) (hO.wordExact_slice rfl _ (rowWords d)) ⟨⟨rfl, Or.inl rfl⟩, trivial⟩)
  else pure ⟨⟩

/-- Wait for the reduced rows of device `s`. -/
def agWaitBlk : PR F PUnit :=
  if d ≠ s then
    Prog.lift (.waitDma2 (semOf G4 s) (rowsOf O 0) (rowsOf O s) (hO.wordExact_slice rfl _ (rowWords 0)) (hO.wordExact_slice rfl _ (rowWords s)))
  else pure ⟨⟩

/-- Wait until both copies to device `s` have left. -/
def drainBlk : PR F PUnit :=
  if d ≠ s then do
    Prog.lift (.waitDma2 (semOf G1 s) (slotOf B d) (rowsOf A s) ((hB.wordExact_slice rfl _ (slotWords d)).reshape _ _)
      (hA.wordExact_slice rfl _ (rowWords s)))
    Prog.lift (.waitDma2 (semOf G3 s) (rowsOf O d) (rowsOf O d) (hO.wordExact_slice rfl _ (rowWords d)) (hO.wordExact_slice rfl _ (rowWords d)))
  else pure ⟨⟩

end Blocks

/-! ## A printed guarded statement is its block -/

section Eqs
variable {α β : Type} {O : Memref sig .tc .vmem S256x512 .bf16} {hO : O.IsWhole} {A : Memref sig .tc .vmem S256x512 .bf16} {hA : A.IsWhole}
  {B : Memref sig .tc .vmem S16x16x512 .bf16} {hB : B.IsWhole} {G1 G2 G3 G4 : DmaSems sig S16} (d s : Fin 16)
  (b : BitVec 1)

theorem send_eq (hb : b = 1#1 ↔ d ≠ s) (o8 o9 : Fin 1 → ℕ) (oA : Fin 2 → ℕ) (oB : Fin 3 → ℕ) (dv : ℕ)
    (e8 : o8 = ![s.val]) (e9 : o9 = ![d.val]) (eA : oA = ![16 * s.val, 0]) (eB : oB = ![d.val, 0, 0]) (ed : dv = s.val)
    {K : PR F α} {k : α → PR F β} {K' : PR F β} (hK : K >>= k = K') :
    ((if _h : b = 1#1 then
        (Prog.lift (.enqueueDma (A.slice (Rect.unit (s := S256x512) oA S16x512.size (inRow' eA)) (fun _ => rfl) : Memref sig .tc .vmem S16x512 .bf16)
            (.remote (Dev.tc (⟨dv, inDev' ed⟩ : Dev nD))
              ((B.slice (Rect.unit (s := S16x16x512) oB S1x16x512.size (inSlot' eB)) (fun _ => rfl) : Memref sig .tc .vmem S1x16x512 .bf16).squeeze S16x512 squeezes_S1x16x512_S16x512)
              (.dma ((G1.slice (Rect.unit (s := S16) o8 S1.size (inSem' e8))).squeeze S_ squeezes_S1_S_).sem))
            (.dma ((G2.slice (Rect.unit (s := S16) o9 S1.size (inSem' e9))).squeeze S_ squeezes_S1_S_).sem)
            (hA.wordExact_slice rfl _ (rowWords' eA)) ((hB.wordExact_slice rfl _ (slotWords' eB)).reshape _ _) ⟨⟨rfl, Or.inl rfl⟩, trivial⟩) : PR F PUnit) >>= fun _ => K
      else K) >>= k) = (sendBlk A hA B hB G1 G2 d s >>= fun _ => K') := by
  subst hK; subst e8; subst e9; subst eA; subst eB; subst ed
  unfold sendBlk
  by_cases h : d = s
  · rw [dif_neg (fun hc => (hb.mp hc) h), if_neg (fun hc => hc h)]; rfl
  · rw [dif_pos (hb.mpr h), if_pos h]; rfl

theorem own_eq (hb : b = 1#1 ↔ d = s) (oA : Fin 2 → ℕ) (oB : Fin 3 → ℕ) (eA : oA = ![16 * s.val, 0]) (eB : oB = ![d.val, 0, 0])
    (pay : FVec F S16x512 .bf16 → FVec F S1x16x512 .bf16) (hp : pay = k0_pay27)
    {K : PR F α} {k : α → PR F β} {K' : PR F β} (hK : K >>= k = K') :
    ((if _h : b = 1#1 then
        ((Prog.lift (.load A (Rect.unit (s := S256x512) oA S16x512.size (inRow' eA)).toLoadRect (View.loadsAt_vmem h_S16x512)) : PR F (Vec F S16x512 .bf16)) >>= fun v =>
         (Prog.lift (.load B (Rect.unit (s := S16x16x512) oB S1x16x512.size (inSlot' eB)).toLoadRect (View.loadsAt_vmem h_S1x16x512)) : PR F (Vec F S1x16x512 .bf16)) >>= fun _ =>
         (Prog.lift (.store B (Rect.unit (s := S16x16x512) oB S1x16x512.size (inSlot' eB)) (pay v) Finset.univ
            (View.stores_vmem h_S1x16x512 (hB.storeExact_slice rfl _ (slotPacked' eB)) (fun _ => rfl)) (.inl rfl)) : PR F PUnit) >>= fun _ => K)
      else K) >>= k) = (ownBlk A B hB d s >>= fun _ => K') := by
  subst hK; subst eA; subst eB; subst hp
  unfold ownBlk
  by_cases h : d = s
  · rw [dif_pos (hb.mpr h), if_pos h]; rfl
  · rw [dif_neg (fun hc => h (hb.mp hc)), if_neg h]; rfl

theorem rsWait_eq (hb : b = 1#1 ↔ d ≠ s) (o9 : Fin 1 → ℕ) (oA : Fin 2 → ℕ) (oB : Fin 3 → ℕ)
    (e9 : o9 = ![s.val]) (eA : oA = ![16 * (0 : Fin 16).val, 0]) (eB : oB = ![s.val, 0, 0])
    {K : PR F α} {k : α → PR F β} {K' : PR F β} (hK : K >>= k = K') :
    ((if _h : b = 1#1 then
        (Prog.lift (.waitDma2 ((G2.slice (Rect.unit (s := S16) o9 S1.size (inSem' e9))).squeeze S_ squeezes_S1_S_).sem
            (A.slice (Rect.unit (s := S256x512) oA S16x512.size (inRow' eA)) (fun _ => rfl) : Memref sig .tc .vmem S16x512 .bf16)
            ((B.slice (Rect.unit (s := S16x16x512) oB S1x16x512.size (inSlot' eB)) (fun _ => rfl) : Memref sig .tc .vmem S1x16x512 .bf16).squeeze S16x512 squeezes_S1x16x512_S16x512)
            (hA.wordExact_slice rfl _ (rowWords' eA)) ((hB.wordExact_slice rfl _ (slotWords' eB)).reshape _ _)) : PR F PUnit) >>= fun _ => K
      else K) >>= k) = (rsWaitBlk A hA B hB G2 d s >>= fun _ => K') := by
  subst hK; subst e9; subst eB
  subst eA
  unfold rsWaitBlk
  by_cases h : d = s
  · rw [dif_neg (fun hc => (hb.mp hc) h), if_neg (fun hc => hc h)]; rfl
  · rw [dif_pos (hb.mpr h), if_pos h]; rfl

theorem red_eq (o : Fin 2 → ℕ) (e : o = ![16 * d.val, 0]) (pay : FVec F S16x512 .bf16)
    {K : PR F α} {k : α → PR F β} {K' : PR F β} (hK : K >>= k = K') :
    (((Prog.lift (.load O (Rect.unit (s := S256x512) o S16x512.size (inRow' e)).toLoadRect (View.loadsAt_vmem h_S16x512)) : PR F (Vec F S16x512 .bf16)) >>= fun _ =>
      (Prog.lift (.store O (Rect.unit (s := S256x512) o S16x512.size (inRow' e)) pay Finset.univ
        (View.stores_vmem h_S16x512 (hO.storeExact_slice rfl _ (rowPacked' e)) (fun _ => rfl)) (.inl rfl)) : PR F PUnit) >>= fun _ => K) >>= k)
    = ((Prog.lift (.load O (rowRect d).toLoadRect (View.loadsAt_vmem h_S16x512)) : PR F (Vec F S16x512 .bf16)) >>= fun _ =>
      (Prog.lift (.store O (rowRect d) pay Finset.univ
        (View.stores_vmem h_S16x512 (hO.storeExact_slice rfl _ (rowPacked d)) (fun _ => rfl)) (.inl rfl)) : PR F PUnit) >>= fun _ => K') := by
  subst hK; subst e; rfl

theorem agSend_eq (hb : b = 1#1 ↔ d ≠ s) (o8 o9 : Fin 1 → ℕ) (oA : Fin 2 → ℕ) (dv : ℕ)
    (e8 : o8 = ![s.val]) (e9 : o9 = ![d.val]) (eA : oA = ![16 * d.val, 0]) (ed : dv = s.val)
    {K : PR F α} {k : α → PR F β} {K' : PR F β} (hK : K >>= k = K') :
    ((if _h : b = 1#1 then
        (Prog.lift (.enqueueDma (O.slice (Rect.unit (s := S256x512) oA S16x512.size (inRow' eA)) (fun _ => rfl) : Memref sig .tc .vmem S16x512 .bf16)
            (.remote (Dev.tc (⟨dv, inDev' ed⟩ : Dev nD))
              (O.slice (Rect.unit (s := S256x512) oA S16x512.size (inRow' eA)) (fun _ => rfl) : Memref sig .tc .vmem S16x512 .bf16)
              (.dma ((G3.slice (Rect.unit (s := S16) o8 S1.size (inSem' e8))).squeeze S_ squeezes_S1_S_).sem))
            (.dma ((G4.slice (Rect.unit (s := S16) o9 S1.size (inSem' e9))).squeeze S_ squeezes_S1_S_).sem)
            (hO.wordExact_slice rfl _ (rowWords' eA)) (hO.wordExact_slice rfl _ (rowWords' eA)) ⟨⟨rfl, Or.inl rfl⟩, trivial⟩) : PR F PUnit) >>= fun _ => K
      else K) >>= k) = (agSendBlk O hO G3 G4 d s >>= fun _ => K') := by
  subst hK; subst e8; subst e9; subst eA; subst ed
  unfold agSendBlk
  by_cases h : d = s
  · rw [dif_neg (fun hc => (hb.mp hc) h), if_neg (fun hc => hc h)]; rfl
  · rw [dif_pos (hb.mpr h), if_pos h]; rfl

theorem agWait_eq (hb : b = 1#1 ↔ d ≠ s) (o9 : Fin 1 → ℕ) (oA oB : Fin 2 → ℕ)
    (e9 : o9 = ![s.val]) (eA : oA = ![16 * (0 : Fin 16).val, 0]) (eB : oB = ![16 * s.val, 0])
    {K : PR F α} {k : α → PR F β} {K' : PR F β} (hK : K >>= k = K') :
    ((if _h : b = 1#1 then
        (Prog.lift (.waitDma2 ((G4.slice (Rect.unit (s := S16) o9 S1.size (inSem' e9))).squeeze S_ squeezes_S1_S_).sem
            (O.slice (Rect.unit (s := S256x512) oA S16x512.size (inRow' eA)) (fun _ => rfl) : Memref sig .tc .vmem S16x512 .bf16)
            (O.slice (Rect.unit (s := S256x512) oB S16x512.size (inRow' eB)) (fun _ => rfl) : Memref sig .tc .vmem S16x512 .bf16)
            (hO.wordExact_slice rfl _ (rowWords' eA)) (hO.wordExact_slice rfl _ (rowWords' eB))) : PR F PUnit) >>= fun _ => K
      else K) >>= k) = (agWaitBlk O hO G4 d s >>= fun _ => K') := by
  subst hK; subst e9; subst eB
  subst eA
  unfold agWaitBlk
  by_cases h : d = s
  · rw [dif_neg (fun hc => (hb.mp hc) h), if_neg (fun hc => hc h)]; rfl
  · rw [dif_pos (hb.mpr h), if_pos h]; rfl

theorem drain_eq (hb : b = 1#1 ↔ d ≠ s) (o8 o10 : Fin 1 → ℕ) (oA oC : Fin 2 → ℕ) (oB : Fin 3 → ℕ)
    (e8 : o8 = ![s.val]) (e10 : o10 = ![s.val]) (eA : oA = ![16 * s.val, 0]) (eC : oC = ![16 * d.val, 0]) (eB : oB = ![d.val, 0, 0])
    {K : PR F α} {k : α → PR F β} {K' : PR F β} (hK : K >>= k = K') :
    ((if _h : b = 1#1 then
        (Prog.lift (.waitDma2 ((G1.slice (Rect.unit (s := S16) o8 S1.size (inSem' e8))).squeeze S_ squeezes_S1_S_).sem
            ((B.slice (Rect.unit (s := S16x16x512) oB S1x16x512.size (inSlot' eB)) (fun _ => rfl) : Memref sig .tc .vmem S1x16x512 .bf16).squeeze S16x512 squeezes_S1x16x512_S16x512)
            (A.slice (Rect.unit (s := S256x512) oA S16x512.size (inRow' eA)) (fun _ => rfl) : Memref sig .tc .vmem S16x512 .bf16)
            ((hB.wordExact_slice rfl _ (slotWords' eB)).reshape _ _) (hA.wordExact_slice rfl _ (rowWords' eA))) : PR F PUnit) >>= fun _ =>
        (Prog.lift (.waitDma2 ((G3.slice (Rect.unit (s := S16) o10 S1.size (inSem' e10))).squeeze S_ squeezes_S1_S_).sem
            (O.slice (Rect.unit (s := S256x512) oC S16x512.size (inRow' eC)) (fun _ => rfl) : Memref sig .tc .vmem S16x512 .bf16)
            (O.slice (Rect.unit (s := S256x512) oC S16x512.size (inRow' eC)) (fun _ => rfl) : Memref sig .tc .vmem S16x512 .bf16)
            (hO.wordExact_slice rfl _ (rowWords' eC)) (hO.wordExact_slice rfl _ (rowWords' eC))) : PR F PUnit) >>= fun _ => K
      else K) >>= k) = (drainBlk O hO A hA B hB G1 G3 d s >>= fun _ => K') := by
  subst hK; subst e8; subst e10; subst eA; subst eB; subst eC
  unfold drainBlk
  by_cases h : d = s
  · rw [dif_neg (fun hc => (hb.mp hc) h), if_neg (fun hc => hc h)]; rfl
  · rw [dif_pos (hb.mpr h), if_pos h]; rfl

end Eqs

/-! ## Runs of blocks -/

/-- One program after another, then `K`. -/
def seqs {β : Type} : List (PR F PUnit) → PR F β → PR F β
  | [], K => K
  | p :: l, K => p >>= fun _ => seqs l K

theorem seqs_nil {β : Type} (K : PR F β) : seqs [] K = K := rfl
theorem seqs_cons {β : Type} (p : PR F PUnit) (l : List (PR F PUnit)) (K : PR F β) : seqs (p :: l) K = p >>= fun _ => seqs l K := rfl
theorem seqs_append {β : Type} (l l' : List (PR F PUnit)) (K : PR F β) : seqs (l ++ l') K = seqs l (seqs l' K) := by
  induction l with
  | nil => rfl
  | cons p l ih => rw [List.cons_append, seqs_cons, seqs_cons, ih]

/-! ## Steps of the comparison -/

section Steps
variable {α β γ : Type}

theorem op_step {p : PR F γ} {K : γ → PR F α} {k : α → PR F β} {K' : γ → PR F β} (hK : ∀ v, (K v >>= k) = K' v) :
    ((p >>= K) >>= k) = (p >>= K') := by
  rw [bind_assoc]; exact congrArg _ (funext hK)

theorem pure_step {a : α} {k : α → PR F β} {r : PR F β} (h : k a = r) : ((pure a : PR F α) >>= k) = r := h

theorem part_step {p : PR F γ} {K : γ → PR F α} {k : α → PR F β} {r : PR F β} (h : (p >>= fun v => K v >>= k) = r) :
    ((p >>= K) >>= k) = r := by rw [bind_assoc]; exact h

theorem op_last {p : PR F α} {k : α → PR F β} {K' : α → PR F β} (hK : ∀ v, k v = K' v) : (p >>= k) = (p >>= K') :=
  congrArg _ (funext hK)

/-- The barrier semaphore. -/
abbrev barS : Sem sig := (SemArray.scalar (sig.barrier 0 rfl) : Sems sig S_).sem

/-- The device `j` places on. -/
def fwd (d j : Fin 16) : Fin 16 := ⟨(d.val + j.val) % 16, Nat.mod_lt _ (by decide)⟩

/-- One unit to the barrier of the device `j` places on. -/
def sigBlk (d j : Fin 16) : PR F PUnit := semSignalWord (fwd d j : Dev nD) barS 1#32

theorem sig_eq (d j : Fin 16) (dv : ℕ) (ed : dv = (d.val + j.val) % 16) (hd : dv < nD)
    {K : PR F α} {k : α → PR F β} {K' : PR F β} (hK : (K >>= k) = K') :
    (((semSignalWord (⟨dv, hd⟩ : Dev nD) barS 1#32 : PR F PUnit) >>= fun _ => K) >>= k) = (sigBlk d j >>= fun _ => K') := by
  subst hK; subst ed; rfl

end Steps

/-! ## The payloads of the two stores of partial products -/

/-- What the kernel stores in rows 0 … 127 of the partial product, from the loads before it. -/
def topPay (v79 : Vec F S2x128x512 .bf16) (v82 : Vec F S512x256 .bf16) (v88 v90 : Vec F S1x128x256 .bf16) (v358 : Vec F S256x512 .bf16) :
    FVec F S128x512 .bf16 :=
  k0_pay26
    (k0_pay9 (k0_pay4 v90)
      (k0_pay8 (k0_pay5 v79 v82 v88) (iota .tc S128x128 32 [0] iota_S128x128_d0_w32) 64#32 k0_pay6 k0_pay7
        (Scalar.extui (Scalar.cmpi .sgt 64#32 0#32)) (Scalar.extui (Scalar.cmpi .slt 64#32 0#32)))
      (constant S128x64 .f32 0x00000000#32))
    (k0_pay15 (k0_pay10 (k0_pay3 v90)) (k0_pay11 (k0_pay1 v79 v82) (k0_pay2 v88)) k0_pay12 (iota .tc S128x128 32 [1] iota_S128x128_d1_w32)
      64#32 k0_pay13 k0_pay14)
    (k0_pay20 (k0_pay16 (k0_pay3 v90)) (k0_pay17 (k0_pay1 v79 v82) (k0_pay2 v88)) k0_pay18 k0_pay19 1#32)
    (k0_pay21 (k0_pay3 v90)) (k0_pay22 (k0_pay1 v79 v82) (k0_pay2 v88))
    (k0_pay24 (iota .tc S128x128 32 [0] iota_S128x128_d0_w32) 64#32 k0_pay23) k0_pay25 v358

/-- What the kernel stores in rows 128 … 255 of the partial product, from the loads before it. -/
def botPay (v79 : Vec F S2x128x512 .bf16) (v82 : Vec F S512x256 .bf16) (v413 v415 : Vec F S1x128x256 .bf16) (v683 : Vec F S256x512 .bf16) :
    FVec F S128x512 .bf16 :=
  k0_pay62
    (k0_pay61
      (k0_pay42 (k0_pay37 v415) (k0_pay38 (k0_pay1 v79 v82) v413) k0_pay39 (iota .tc S128x128 32 [1] iota_S128x128_d1_w32) 64#32 k0_pay40 k0_pay41)
      (k0_pay49 (k0_pay43 (k0_pay36 v415))
        (k0_pay47 (k0_pay44 (k0_pay1 v79 v82) (k0_pay35 v413)) (iota .tc S128x128 32 [0] iota_S128x128_d0_w32) 64#32 k0_pay45 k0_pay46)
        (k0_pay48 (k0_pay44 (k0_pay1 v79 v82) (k0_pay35 v413)) (iota .tc S128x128 32 [0] iota_S128x128_d0_w32) 64#32 k0_pay45 k0_pay46)
        (Scalar.ofBits .f32 0x3F800000#32))
      (k0_pay55 (k0_pay50 (k0_pay36 v415)) (k0_pay51 (k0_pay1 v79 v82) (k0_pay35 v413)) k0_pay52 (iota .tc S128x128 32 [1] iota_S128x128_d1_w32)
        64#32 k0_pay53 k0_pay54 (Scalar.extui (Scalar.cmpi .sgt 64#32 0#32)))
      (k0_pay56 (k0_pay36 v415)) (k0_pay57 (k0_pay1 v79 v82) (k0_pay35 v413)) (iota .tc S128x128 32 [0] iota_S128x128_d0_w32)
      k0_pay58 k0_pay59 k0_pay60)
    v683

/-! ## The body -/

section Body
variable (arg0 : Memref sig .tc .vmem S2x128x512 .bf16) (harg0 : arg0.IsWhole) (arg1 : Memref sig .tc .vmem S512x256 .bf16) (harg1 : arg1.IsWhole)
  (arg2 : Memref sig .tc .vmem S2x128x256 .bf16) (harg2 : arg2.IsWhole) (arg3 : Memref sig .tc .vmem S2x128x256 .bf16) (harg3 : arg3.IsWhole)
  (arg4 : Memref sig .tc .vmem S256x512 .bf16) (harg4 : arg4.IsWhole) (arg5 : Memref sig .tc .vmem S256x512 .bf16) (harg5 : arg5.IsWhole)
  (arg6 : Memref sig .tc .vmem S256x512 .bf16) (harg6 : arg6.IsWhole) (arg7 : Memref sig .tc .vmem S16x16x512 .bf16) (harg7 : arg7.IsWhole)
  (arg8 arg9 arg10 arg11 : DmaSems sig S16)

/-- The sixteen devices in order; the first eight; the others. -/
abbrev all16 : List (Fin 16) := [0, 1, 2, 3, 4, 5, 6, 7, 8, 9, 10, 11, 12, 13, 14, 15]
abbrev low8 : List (Fin 16) := [0, 1, 2, 3, 4, 5, 6, 7]
abbrev high8 : List (Fin 16) := [8, 9, 10, 11, 12, 13, 14, 15]
/-- The fifteen steps from a device to another. -/
abbrev steps15 : List (Fin 16) := [1, 2, 3, 4, 5, 6, 7, 8, 9, 10, 11, 12, 13, 14, 15]

/-- A chunk of the partial product goes out: to its device, or to the own slot. -/
def outBlk (d s : Fin 16) : PR F PUnit :=
  sendBlk arg6 harg6 arg7 harg7 arg8 arg9 d s >>= fun _ => ownBlk arg6 arg7 harg7 d s

/-- The body after it has read its device. -/
def bodyOf (d : Fin 16) : PR F PUnit :=
  seqs (steps15.map (sigBlk d)) <|
  semWaitWord barS 15#32 >>= fun _ =>
  (Prog.lift (.load arg0 (Rect.unit (s := S2x128x512) ![0, 0, 0] S2x128x512.size inb_S2x128x512_S2x128x512_0_0_0).toLoadRect (View.loadsAt_vmem h_S2x128x512)) : PR F (Vec F S2x128x512 .bf16)) >>= fun v79 =>
  (Prog.lift (.load arg1 (Rect.unit (s := S512x256) ![0, 0] S512x256.size inb_S512x256_S512x256_0_0).toLoadRect (View.loadsAt_vmem h_S512x256)) : PR F (Vec F S512x256 .bf16)) >>= fun v82 =>
  (Prog.lift (.load arg2 (Rect.unit (s := S2x128x256) ![0, 0, 0] S1x128x256.size inb_S2x128x256_S1x128x256_0_0_0).toLoadRect (View.loadsAt_vmem h_S1x128x256)) : PR F (Vec F S1x128x256 .bf16)) >>= fun v88 =>
  (Prog.lift (.load arg3 (Rect.unit (s := S2x128x256) ![0, 0, 0] S1x128x256.size inb_S2x128x256_S1x128x256_0_0_0).toLoadRect (View.loadsAt_vmem h_S1x128x256)) : PR F (Vec F S1x128x256 .bf16)) >>= fun v90 =>
  (Prog.lift (.load arg4 (Rect.unit (s := S256x512) ![0, 0] S256x512.size inb_S256x512_S256x512_0_0).toLoadRect (View.loadsAt_vmem h_S256x512)) : PR F (Vec F S256x512 .bf16)) >>= fun v358 =>
  (Prog.lift (.load arg6 (Rect.unit (s := S256x512) ![0, 0] S128x512.size inb_S256x512_S128x512_0_0).toLoadRect (View.loadsAt_vmem h_S128x512)) : PR F (Vec F S128x512 .bf16)) >>= fun _ =>
  (Prog.lift (.store arg6 (Rect.unit (s := S256x512) ![0, 0] S128x512.size inb_S256x512_S128x512_0_0) (topPay v79 v82 v88 v90 v358) Finset.univ
    (View.stores_vmem h_S128x512 (harg6.storeExact_slice rfl _ packedbf16_S256x512_S128x512_0_0) (fun _ => rfl)) (.inl rfl)) : PR F PUnit) >>= fun _ =>
  seqs (low8.map (outBlk arg6 harg6 arg7 harg7 arg8 arg9 d)) <|
  (Prog.lift (.load arg2 (Rect.unit (s := S2x128x256) ![1, 0, 0] S1x128x256.size inb_S2x128x256_S1x128x256_1_0_0).toLoadRect (View.loadsAt_vmem h_S1x128x256)) : PR F (Vec F S1x128x256 .bf16)) >>= fun v413 =>
  (Prog.lift (.load arg3 (Rect.unit (s := S2x128x256) ![1, 0, 0] S1x128x256.size inb_S2x128x256_S1x128x256_1_0_0).toLoadRect (View.loadsAt_vmem h_S1x128x256)) : PR F (Vec F S1x128x256 .bf16)) >>= fun v415 =>
  (Prog.lift (.load arg4 (Rect.unit (s := S256x512) ![0, 0] S256x512.size inb_S256x512_S256x512_0_0).toLoadRect (View.loadsAt_vmem h_S256x512)) : PR F (Vec F S256x512 .bf16)) >>= fun v683 =>
  (Prog.lift (.load arg6 (Rect.unit (s := S256x512) ![128, 0] S128x512.size inb_S256x512_S128x512_128_0).toLoadRect (View.loadsAt_vmem h_S128x512)) : PR F (Vec F S128x512 .bf16)) >>= fun _ =>
  (Prog.lift (.store arg6 (Rect.unit (s := S256x512) ![128, 0] S128x512.size inb_S256x512_S128x512_128_0) (botPay v79 v82 v413 v415 v683) Finset.univ
    (View.stores_vmem h_S128x512 (harg6.storeExact_slice rfl _ packedbf16_S256x512_S128x512_128_0) (fun _ => rfl)) (.inl rfl)) : PR F PUnit) >>= fun _ =>
  seqs (high8.map (outBlk arg6 harg6 arg7 harg7 arg8 arg9 d)) <|
  seqs (all16.map (rsWaitBlk arg6 harg6 arg7 harg7 arg9 d)) <|
  (Prog.lift (.load arg7 (Rect.unit (s := S16x16x512) ![0, 0, 0] S16x16x512.size inb_S16x16x512_S16x16x512_0_0_0).toLoadRect (View.loadsAt_vmem h_S16x16x512)) : PR F (Vec F S16x16x512 .bf16)) >>= fun v786 =>
  (Prog.lift (.load arg5 (rowRect d).toLoadRect (View.loadsAt_vmem h_S16x512)) : PR F (Vec F S16x512 .bf16)) >>= fun _ =>
  (Prog.lift (.store arg5 (rowRect d) (k0_pay71 v786) Finset.univ
    (View.stores_vmem h_S16x512 (harg5.storeExact_slice rfl _ (rowPacked d)) (fun _ => rfl)) (.inl rfl)) : PR F PUnit) >>= fun _ =>
  seqs (all16.map (agSendBlk arg5 harg5 arg10 arg11 d)) <|
  seqs (all16.map (agWaitBlk arg5 harg5 arg11 d)) <|
  seqs (all16.map (drainBlk arg5 harg5 arg6 harg6 arg7 harg7 arg8 arg10 d)) <|
  pure ⟨⟩

theorem body_eq :
    (cc0_body arg0 harg0 arg1 harg1 arg2 harg2 arg3 harg3 arg4 harg4 arg5 harg5 arg6 harg6 arg7 harg7 arg8 arg9 arg10 arg11 : PR F PUnit)
      = (Prog.lift .deviceId >>= fun d => bodyOf arg0 arg1 arg2 arg3 arg4 arg5 harg5 arg6 harg6 arg7 harg7 arg8 arg9 arg10 arg11 d) := by
  rw [← bind_pure (cc0_body (F := F) _ _ _ _ _ _ _ _ _ _ _ _ _ _ _ _ _ _ _ _), cc0_body_eq_skeleton]
  unfold cc0_body_skel bodyOf outBlk
  conv_rhs => simp -zeta only [List.map_cons, List.map_nil, seqs_cons, seqs_nil, bind_assoc]
  with_reducible refine part_step ?_
  rw [k0_part1_eq_skeleton]; unfold k0_part1_skel
  refine op_step (F := F) fun d => ?_
  iterate 4 (refine sig_eq (F := F) d _ _ ?_ _ ?_; (revert d; decide))
  with_reducible refine pure_step (F := F) ?_
  with_reducible refine part_step ?_
  rw [k0_part2_eq_skeleton]; unfold k0_part2_skel
  iterate 5 (refine sig_eq (F := F) d _ _ ?_ _ ?_; (revert d; decide))
  with_reducible refine pure_step (F := F) ?_
  with_reducible refine part_step ?_
  rw [k0_part3_eq_skeleton]; unfold k0_part3_skel
  iterate 5 (refine sig_eq (F := F) d _ _ ?_ _ ?_; (revert d; decide))
  with_reducible refine pure_step (F := F) ?_
  with_reducible refine part_step ?_
  rw [k0_part4_eq_skeleton]; unfold k0_part4_skel
  iterate 1 (refine sig_eq (F := F) d _ _ ?_ _ ?_; (revert d; decide))
  iterate 5 refine op_step (F := F) fun _ => ?_
  with_reducible refine pure_step (F := F) ?_
  with_reducible refine part_step ?_
  rw [k0_part5_eq_skeleton]; unfold k0_part5_skel
  with_reducible refine pure_step (F := F) ?_
  with_reducible refine part_step ?_
  rw [k0_part6_eq_skeleton]; unfold k0_part6_skel
  with_reducible refine pure_step (F := F) ?_
  with_reducible refine part_step ?_
  rw [k0_part7_eq_skeleton]; unfold k0_part7_skel
  with_reducible refine pure_step (F := F) ?_
  with_reducible refine part_step ?_
  rw [k0_part8_eq_skeleton]; unfold k0_part8_skel
  with_reducible refine pure_step (F := F) ?_
  with_reducible refine part_step ?_
  rw [k0_part9_eq_skeleton]; unfold k0_part9_skel
  with_reducible refine pure_step (F := F) ?_
  with_reducible refine part_step ?_
  rw [k0_part10_eq_skeleton]; unfold k0_part10_skel
  iterate 3 refine op_step (F := F) fun _ => ?_
  iterate 2 ((refine send_eq d _ _ ?_ _ _ _ _ _ ?_ ?_ ?_ ?_ ?_ ?_; iterate 6 first | rfl | (revert d; decide)); (refine own_eq d _ _ ?_ _ _ ?_ ?_ _ ?_ ?_; iterate 4 first | rfl | (revert d; decide)))
  with_reducible refine pure_step (F := F) ?_
  with_reducible refine part_step ?_
  rw [k0_part11_eq_skeleton]; unfold k0_part11_skel
  iterate 5 ((refine send_eq d _ _ ?_ _ _ _ _ _ ?_ ?_ ?_ ?_ ?_ ?_; iterate 6 first | rfl | (revert d; decide)); (refine own_eq d _ _ ?_ _ _ ?_ ?_ _ ?_ ?_; iterate 4 first | rfl | (revert d; decide)))
  with_reducible refine pure_step (F := F) ?_
  with_reducible refine part_step ?_
  rw [k0_part12_eq_skeleton]; unfold k0_part12_skel
  iterate 1 ((refine send_eq d _ _ ?_ _ _ _ _ _ ?_ ?_ ?_ ?_ ?_ ?_; iterate 6 first | rfl | (revert d; decide)); (refine own_eq d _ _ ?_ _ _ ?_ ?_ _ ?_ ?_; iterate 4 first | rfl | (revert d; decide)))
  iterate 2 refine op_step (F := F) fun _ => ?_
  with_reducible refine pure_step (F := F) ?_
  with_reducible refine part_step ?_
  rw [k0_part13_eq_skeleton]; unfold k0_part13_skel
  with_reducible refine pure_step (F := F) ?_
  with_reducible refine part_step ?_
  rw [k0_part14_eq_skeleton]; unfold k0_part14_skel
  with_reducible refine pure_step (F := F) ?_
  with_reducible refine part_step ?_
  rw [k0_part15_eq_skeleton]; unfold k0_part15_skel
  with_reducible refine pure_step (F := F) ?_
  with_reducible refine part_step ?_
  rw [k0_part16_eq_skeleton]; unfold k0_part16_skel
  with_reducible refine pure_step (F := F) ?_
  with_reducible refine part_step ?_
  rw [k0_part17_eq_skeleton]; unfold k0_part17_skel
  with_reducible refine pure_step (F := F) ?_
  with_reducible refine part_step ?_
  rw [k0_part18_eq_skeleton]; unfold k0_part18_skel
  iterate 3 refine op_step (F := F) fun _ => ?_
  iterate 4 ((refine send_eq d _ _ ?_ _ _ _ _ _ ?_ ?_ ?_ ?_ ?_ ?_; iterate 6 first | rfl | (revert d; decide)); (refine own_eq d _ _ ?_ _ _ ?_ ?_ _ ?_ ?_; iterate 4 first | rfl | (revert d; decide)))
  with_reducible refine pure_step (F := F) ?_
  with_reducible refine part_step ?_
  rw [k0_part19_eq_skeleton]; unfold k0_part19_skel
  iterate 4 ((refine send_eq d _ _ ?_ _ _ _ _ _ ?_ ?_ ?_ ?_ ?_ ?_; iterate 6 first | rfl | (revert d; decide)); (refine own_eq d _ _ ?_ _ _ ?_ ?_ _ ?_ ?_; iterate 4 first | rfl | (revert d; decide)))
  iterate 2 (refine rsWait_eq d _ _ ?_ _ _ _ ?_ ?_ ?_ ?_; iterate 4 first | rfl | (revert d; decide))
  with_reducible refine pure_step (F := F) ?_
  with_reducible refine part_step ?_
  rw [k0_part20_eq_skeleton]; unfold k0_part20_skel
  iterate 10 (refine rsWait_eq d _ _ ?_ _ _ _ ?_ ?_ ?_ ?_; iterate 4 first | rfl | (revert d; decide))
  with_reducible refine pure_step (F := F) ?_
  with_reducible refine part_step ?_
  rw [k0_part21_eq_skeleton]; unfold k0_part21_skel
  iterate 4 (refine rsWait_eq d _ _ ?_ _ _ _ ?_ ?_ ?_ ?_; iterate 4 first | rfl | (revert d; decide))
  iterate 1 refine op_step (F := F) fun _ => ?_
  refine red_eq (hO := harg5) d _ ?_ _ ?_; (revert d; decide)
  iterate 3 (refine agSend_eq d _ _ ?_ _ _ _ _ ?_ ?_ ?_ ?_ ?_; iterate 5 first | rfl | (revert d; decide))
  with_reducible refine pure_step (F := F) ?_
  with_reducible refine part_step ?_
  rw [k0_part22_eq_skeleton]; unfold k0_part22_skel
  iterate 10 (refine agSend_eq d _ _ ?_ _ _ _ _ ?_ ?_ ?_ ?_ ?_; iterate 5 first | rfl | (revert d; decide))
  with_reducible refine pure_step (F := F) ?_
  with_reducible refine part_step ?_
  rw [k0_part23_eq_skeleton]; unfold k0_part23_skel
  iterate 3 (refine agSend_eq d _ _ ?_ _ _ _ _ ?_ ?_ ?_ ?_ ?_; iterate 5 first | rfl | (revert d; decide))
  iterate 7 (refine agWait_eq d _ _ ?_ _ _ _ ?_ ?_ ?_ ?_; iterate 4 first | rfl | (revert d; decide))
  with_reducible refine pure_step (F := F) ?_
  with_reducible refine part_step ?_
  rw [k0_part24_eq_skeleton]; unfold k0_part24_skel
  iterate 9 (refine agWait_eq d _ _ ?_ _ _ _ ?_ ?_ ?_ ?_; iterate 4 first | rfl | (revert d; decide))
  iterate 1 (refine drain_eq d _ _ ?_ _ _ _ _ _ ?_ ?_ ?_ ?_ ?_ ?_; iterate 6 first | rfl | (revert d; decide))
  with_reducible refine pure_step (F := F) ?_
  with_reducible refine part_step ?_
  rw [k0_part25_eq_skeleton]; unfold k0_part25_skel
  iterate 10 (refine drain_eq d _ _ ?_ _ _ _ _ _ ?_ ?_ ?_ ?_ ?_ ?_; iterate 6 first | rfl | (revert d; decide))
  with_reducible refine pure_step (F := F) ?_
  iterate 5 (refine drain_eq d _ _ ?_ _ _ _ _ _ ?_ ?_ ?_ ?_ ?_ ?_; iterate 6 first | rfl | (revert d; decide))
  rfl

end Body
end Cert.KernelIdeal
-- ==== Proof.Talk.lean ====
module
public import proofs.«01_k».proof.Proof.Blocks
public import Idealize.ShloMosaic.Lib.Rounds
public import Idealize.ShloMosaic.Lib.Rounds.Family
public import Idealize.ShloMosaic.Lib.Tactic
public import Idealize.ShloMosaic.Lib.Transfers
public import Idealize.ShloMosaic.Lib.ValueLayout
public import Idealize.ShloMosaic.Lib.ValueIdxCoords
public import Idealize.ShloMosaic.Lib.Pipeline.ValueKit.Geometry
public import Idealize.ShloMosaic.Harness.Basic
/-!
The protocol of the sixteen devices: what each buffer holds when, which semaphore counts what, and what each count hands over.

Every device `c` runs: tell all others it has arrived and hand each of them its own landing places (slot and rows); wait for the
fifteen others; send chunk `s` of the partial product to device `s`; wait for the fifteen chunks sent to it; sum them; send the sum to
all others; wait for the fifteen sums; wait until its own thirty copies have left.
-/
@[expose] public section
noncomputable section
namespace Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

/-- The resource algebra: the staging copies' rounds and the protocol's, whose duties are named by a device. -/
abbrev UU : Type := UR sig nD τ × URounds (GSem nD τ sig) (Fin 16)

local notation "𝕄" => MT nD τ sig Unit (Elt F) ℕ UU ℕ

abbrev EP : Emb (UR sig nD τ) (MT nD τ sig Unit (Elt F) ℕ UU ℕ) := embL
abbrev ER : Emb (URounds (GSem nD τ sig) (Fin 16)) (MT nD τ sig Unit (Elt F) ℕ UU ℕ) := embR

abbrev 𝒱₀ : Variants := Variants.none

/-! ## The buffers -/

abbrev OM : Memref sig .tc .vmem S256x512 .bf16 := Memref.whole cc0_stg5_0
abbrev AM : Memref sig .tc .vmem S256x512 .bf16 := Memref.whole cc0_scratch0
abbrev BM : Memref sig .tc .vmem S16x16x512 .bf16 := Memref.whole cc0_scratch1

abbrev rowSet (s : Fin 16) : Finset S256x512.Idx := (rowRect s).set
abbrev slotSet (s : Fin 16) : Finset S16x16x512.Idx := (slotRect s).set
/-- The upper and the lower half of the rows. -/
abbrev loRect : Rect S256x512 := Rect.unit (s := S256x512) ![0, 0] S128x512.size inb_S256x512_S128x512_0_0
abbrev hiRect : Rect S256x512 := Rect.unit (s := S256x512) ![128, 0] S128x512.size inb_S256x512_S128x512_128_0
abbrev loSet : Finset S256x512.Idx := loRect.set
abbrev hiSet : Finset S256x512.Idx := hiRect.set

theorem mem_rowSet {s : Fin 16} {i : S256x512.Idx} : i ∈ rowSet s ↔ (i 0).val / 16 = s.val := by
  rw [Rect.mem_set_unit]
  constructor
  · intro h
    have h0 := h 0
    change 16 * s.val ≤ (i 0).val ∧ (i 0).val < 16 * s.val + 16 at h0
    omega
  · intro h a
    fin_cases a
    · change 16 * s.val ≤ (i 0).val ∧ (i 0).val < 16 * s.val + 16
      omega
    · change 0 ≤ (i 1).val ∧ (i 1).val < 0 + 512
      exact ⟨Nat.zero_le _, by have := (i 1).isLt; change (i 1).val < 512 at this; omega⟩

theorem mem_slotSet {s : Fin 16} {i : S16x16x512.Idx} : i ∈ slotSet s ↔ (i 0).val = s.val := by
  rw [Rect.mem_set_unit]
  constructor
  · intro h
    have h0 := h 0
    change s.val ≤ (i 0).val ∧ (i 0).val < s.val + 1 at h0
    omega
  · intro h a
    fin_cases a
    · change s.val ≤ (i 0).val ∧ (i 0).val < s.val + 1
      omega
    · change 0 ≤ (i 1).val ∧ (i 1).val < 0 + 16
      exact ⟨Nat.zero_le _, by have := (i 1).isLt; change (i 1).val < 16 at this; omega⟩
    · change 0 ≤ (i 2).val ∧ (i 2).val < 0 + 512
      exact ⟨Nat.zero_le _, by have := (i 2).isLt; change (i 2).val < 512 at this; omega⟩

theorem mem_loSet {i : S256x512.Idx} : i ∈ loSet ↔ (i 0).val < 128 := by
  rw [Rect.mem_set_unit]
  constructor
  · intro h
    have h0 := h 0
    change 0 ≤ (i 0).val ∧ (i 0).val < 0 + 128 at h0
    omega
  · intro h a
    fin_cases a
    · change 0 ≤ (i 0).val ∧ (i 0).val < 0 + 128
      omega
    · change 0 ≤ (i 1).val ∧ (i 1).val < 0 + 512
      exact ⟨Nat.zero_le _, by have := (i 1).isLt; change (i 1).val < 512 at this; omega⟩

theorem mem_hiSet {i : S256x512.Idx} : i ∈ hiSet ↔ 128 ≤ (i 0).val := by
  rw [Rect.mem_set_unit]
  constructor
  · intro h
    have h0 := h 0
    change 128 ≤ (i 0).val ∧ (i 0).val < 128 + 128 at h0
    omega
  · intro h a
    fin_cases a
    · change 128 ≤ (i 0).val ∧ (i 0).val < 128 + 128
      exact ⟨h, by have := (i 0).isLt; change (i 0).val < 256 at this; omega⟩
    · change 0 ≤ (i 1).val ∧ (i 1).val < 0 + 512
      exact ⟨Nat.zero_le _, by have := (i 1).isLt; change (i 1).val < 512 at this; omega⟩

theorem row_lt (i : S256x512.Idx) : (i 0).val < 256 := (i 0).isLt
theorem col_lt (i : S256x512.Idx) : (i 1).val < 512 := (i 1).isLt

theorem rowSet_disj : ∀ s s' : Fin 16, s ≠ s' → Disjoint (rowSet s) (rowSet s') := fun s s' h => by
  rw [Finset.disjoint_left]; intro i h1 h2
  exact h (Fin.ext ((mem_rowSet.mp h1).symm.trans (mem_rowSet.mp h2)))
theorem slotSet_disj : ∀ s s' : Fin 16, s ≠ s' → Disjoint (slotSet s) (slotSet s') := fun s s' h => by
  rw [Finset.disjoint_left]; intro i h1 h2
  exact h (Fin.ext ((mem_slotSet.mp h1).symm.trans (mem_slotSet.mp h2)))
theorem rowSet_cover : (Finset.univ : Finset S256x512.Idx) = (Finset.univ : Finset (Fin 16)).biUnion rowSet := by
  ext i; simp only [Finset.mem_univ, Finset.mem_biUnion, true_and, true_iff]
  exact ⟨⟨(i 0).val / 16, by have := row_lt i; omega⟩, mem_rowSet.mpr rfl⟩
theorem slotSet_cover : (Finset.univ : Finset S16x16x512.Idx) = (Finset.univ : Finset (Fin 16)).biUnion slotSet := by
  ext i; simp only [Finset.mem_univ, Finset.mem_biUnion, true_and, true_iff]
  exact ⟨i 0, mem_slotSet.mpr rfl⟩
theorem loSet_cover : loSet = low8.toFinset.biUnion rowSet := by
  ext i; rw [mem_loSet, Finset.mem_biUnion]
  constructor
  · intro h
    refine ⟨⟨(i 0).val / 16, by omega⟩, ?_, mem_rowSet.mpr rfl⟩
    have : ∀ n : Fin 16, n.val < 8 → n ∈ low8.toFinset := by decide
    exact this _ (by show (i 0).val / 16 < 8; omega)
  · rintro ⟨s, hs, hi⟩
    have : ∀ n : Fin 16, n ∈ low8.toFinset → n.val < 8 := by decide
    have h1 := this s hs
    have h2 := mem_rowSet.mp hi
    omega
theorem hiSet_cover : hiSet = high8.toFinset.biUnion rowSet := by
  ext i; rw [mem_hiSet, Finset.mem_biUnion]
  constructor
  · intro h
    refine ⟨⟨(i 0).val / 16, by have := row_lt i; omega⟩, ?_, mem_rowSet.mpr rfl⟩
    have : ∀ n : Fin 16, 8 ≤ n.val → n ∈ high8.toFinset := by decide
    exact this _ (by show 8 ≤ (i 0).val / 16; omega)
  · rintro ⟨s, hs, hi⟩
    have : ∀ n : Fin 16, n ∈ high8.toFinset → 8 ≤ n.val := by decide
    have h1 := this s hs
    have h2 := mem_rowSet.mp hi
    omega
theorem hiSet_rest : (Finset.univ : Finset S256x512.Idx) \ loSet = hiSet := by
  ext i; rw [Finset.mem_sdiff, mem_loSet, mem_hiSet]; simp
theorem low_high : (Finset.univ : Finset (Fin 16)) = low8.toFinset ∪ high8.toFinset := by decide
theorem low_high_disj : Disjoint low8.toFinset high8.toFinset := by decide

theorem rowsOfA_set (s : Fin 16) : (rowsOf AM s).view.set = rowSet s := View.set_slice_whole _ _
theorem rowsOfO_set (s : Fin 16) : (rowsOf OM s).view.set = rowSet s := View.set_slice_whole _ _
theorem slotOf_set (s : Fin 16) : (slotOf BM s).view.set = slotSet s :=
  (View.set_reshape _ _).trans (View.set_slice_whole _ _)

/-! ## What the buffers hold -/

/-- What one device reads: its copy of the activations, its columns of the query weight, its heads of the keys and the values,
    its rows of the output weight. -/
structure Ins (F : FTy → Type) where
  x : Vec F S2x128x512 .bf16
  wq : Vec F S512x256 .bf16
  k : Vec F S2x128x256 .bf16
  v : Vec F S2x128x256 .bf16
  wo : Vec F S256x512 .bf16

section Contents
variable (i : Ins F)
abbrev rdX : Vec F S2x128x512 .bf16 := (Memref.whole cc0_stg0_0 : Memref sig .tc .vmem S2x128x512 .bf16).view.readAt (Elt F) (Rect.unit (s := S2x128x512) ![0, 0, 0] S2x128x512.size inb_S2x128x512_S2x128x512_0_0_0).toLoadRect i.x
abbrev rdWq : Vec F S512x256 .bf16 := (Memref.whole cc0_stg1_0 : Memref sig .tc .vmem S512x256 .bf16).view.readAt (Elt F) (Rect.unit (s := S512x256) ![0, 0] S512x256.size inb_S512x256_S512x256_0_0).toLoadRect i.wq
abbrev rdK0 : Vec F S1x128x256 .bf16 := (Memref.whole cc0_stg2_0 : Memref sig .tc .vmem S2x128x256 .bf16).view.readAt (Elt F) (Rect.unit (s := S2x128x256) ![0, 0, 0] S1x128x256.size inb_S2x128x256_S1x128x256_0_0_0).toLoadRect i.k
abbrev rdK1 : Vec F S1x128x256 .bf16 := (Memref.whole cc0_stg2_0 : Memref sig .tc .vmem S2x128x256 .bf16).view.readAt (Elt F) (Rect.unit (s := S2x128x256) ![1, 0, 0] S1x128x256.size inb_S2x128x256_S1x128x256_1_0_0).toLoadRect i.k
abbrev rdV0 : Vec F S1x128x256 .bf16 := (Memref.whole cc0_stg3_0 : Memref sig .tc .vmem S2x128x256 .bf16).view.readAt (Elt F) (Rect.unit (s := S2x128x256) ![0, 0, 0] S1x128x256.size inb_S2x128x256_S1x128x256_0_0_0).toLoadRect i.v
abbrev rdV1 : Vec F S1x128x256 .bf16 := (Memref.whole cc0_stg3_0 : Memref sig .tc .vmem S2x128x256 .bf16).view.readAt (Elt F) (Rect.unit (s := S2x128x256) ![1, 0, 0] S1x128x256.size inb_S2x128x256_S1x128x256_1_0_0).toLoadRect i.v
abbrev rdWo : Vec F S256x512 .bf16 := (Memref.whole cc0_stg4_0 : Memref sig .tc .vmem S256x512 .bf16).view.readAt (Elt F) (Rect.unit (s := S256x512) ![0, 0] S256x512.size inb_S256x512_S256x512_0_0).toLoadRect i.wo

/-- One device's partial product, upper and lower half of the rows. -/
def topOf : FVec F S128x512 .bf16 := topPay (rdX i) (rdWq i) (rdK0 i) (rdV0 i) (rdWo i)
def botOf : FVec F S128x512 .bf16 := botPay (rdX i) (rdWq i) (rdK1 i) (rdV1 i) (rdWo i)
/-- One device's partial product. -/
def accOf : Vec F S256x512 .bf16 := fun j =>
  if h : (j 0).val < 128 then topOf i (ix2 ⟨(j 0).val, h⟩ ⟨(j 1).val, col_lt j⟩)
  else botOf i (ix2 ⟨(j 0).val - 128, by have := row_lt j; omega⟩ ⟨(j 1).val, col_lt j⟩)
end Contents

variable (I : Dev nD → Ins F)

/-- What device `c`'s receive buffer holds: of every device the chunk for `c`. -/
def rsOf (c : Fin 16) : Vec F S16x16x512 .bf16 := fun j =>
  accOf (I (j 0)) (ix2 ⟨16 * c.val + (j 1).val, by have := (j 1).isLt; change (j 1).val < 16 at this; have := c.isLt; omega⟩
    ⟨(j 2).val, by have := (j 2).isLt; change (j 2).val < 512 at this; exact this⟩)
/-- What every device's result holds: chunk `s` is device `s`'s sum. -/
def outOf : Vec F S256x512 .bf16 := fun j =>
  k0_pay71 (rsOf I ⟨(j 0).val / 16, by have := row_lt j; omega⟩) (ix2 ⟨(j 0).val % 16, Nat.mod_lt _ (by decide)⟩ ⟨(j 1).val, col_lt j⟩)

/-! ## Points-tos -/

abbrev ptO (c : Fin 16) (S : Finset S256x512.Idx) (q : PosShare TreeShare) (f : Vec F S256x512 .bf16) : sProp 𝕄 :=
  ((c : Dev nD) : Thread nD τ).loc cc0_stg5_0 ↦[S]{q} f
abbrev ptA (c : Fin 16) (S : Finset S256x512.Idx) (f : Vec F S256x512 .bf16) : sProp 𝕄 :=
  ((c : Dev nD) : Thread nD τ).loc cc0_scratch0 ↦[S]{fullShare} f
abbrev ptB (c : Fin 16) (S : Finset S16x16x512.Idx) (f : Vec F S16x16x512 .bf16) : sProp 𝕄 :=
  ((c : Dev nD) : Thread nD τ).loc cc0_scratch1 ↦[S]{fullShare} f

/-! ## What a store or a copy leaves -/

theorem row_at (s : Fin 16) (j : S256x512.Idx) (hj : j ∈ rowSet s) :
    (rowRect s).emb (ix2 (⟨(j 0).val % 16, Nat.mod_lt _ (by decide)⟩ : Fin 16) (⟨(j 1).val, col_lt j⟩ : Fin 512)) = j := by
  have h := mem_rowSet.mp hj
  funext a; apply Fin.ext
  rw [ValueKit.rect_emb_unit_val]
  fin_cases a
  · show 16 * s.val + (j 0).val % 16 = (j 0).val
    omega
  · show 0 + (j 1).val = (j 1).val
    omega

theorem slot_lt1 (j : S16x16x512.Idx) : (j 1).val < 16 := (j 1).isLt
theorem slot_lt2 (j : S16x16x512.Idx) : (j 2).val < 512 := (j 2).isLt

theorem slotRect_at (s : Fin 16) (j : S16x16x512.Idx) (hj : j ∈ slotSet s) :
    (slotRect s).emb (ix3 (⟨0, Nat.one_pos⟩ : Fin 1) (⟨(j 1).val, slot_lt1 j⟩ : Fin 16) (⟨(j 2).val, slot_lt2 j⟩ : Fin 512)) = j := by
  have h := mem_slotSet.mp hj
  funext a; apply Fin.ext
  rw [ValueKit.rect_emb_unit_val]
  fin_cases a
  · show s.val + 0 = (j 0).val
    omega
  · show 0 + (j 1).val = (j 1).val
    omega
  · show 0 + (j 2).val = (j 2).val
    omega

theorem slotOf_at (s : Fin 16) (j : S16x16x512.Idx) (hj : j ∈ slotSet s) :
    (slotOf BM s).view.emb (ix2 (⟨(j 1).val, slot_lt1 j⟩ : Fin 16) (⟨(j 2).val, slot_lt2 j⟩ : Fin 512)) = j := by
  show (slotRect s).emb (Shape.reshapeEquiv _ (ix2 (⟨(j 1).val, slot_lt1 j⟩ : Fin 16) (⟨(j 2).val, slot_lt2 j⟩ : Fin 512))) = j
  rw [reshapeEquiv_ix2_1ab]
  exact slotRect_at s j hj

theorem rowRect_ix2 (s x : Fin 16) (y : Fin 512) :
    (rowRect s).emb (ix2 x y) = (ix2 (⟨16 * s.val + x.val, by omega⟩ : Fin 256) y : S256x512.Idx) := by
  funext a; apply Fin.ext
  rw [ValueKit.rect_emb_unit_val]
  fin_cases a
  · rfl
  · show 0 + y.val = y.val
    omega

/-- A chunk of device `d`'s partial product, landed at device `c`. -/
theorem landed_chunk (c d : Fin 16) (f : Vec F S16x16x512 .bf16) (j : S16x16x512.Idx) (hj : j ∈ slotSet d) :
    ((slotOf BM d).view.write (Elt F) f ((rowsOf AM c).view.read (Elt F) (accOf (I d))) Finset.univ : Vec F S16x16x512 .bf16) j = rsOf I c j := by
  conv_lhs => rw [← slotOf_at d j hj]
  refine (View.write_emb_of_mem (v := (slotOf BM d).view) _ _ (Finset.mem_univ _)).trans ?_
  have e : (j 0 : Fin 16) = d := Fin.ext (mem_slotSet.mp hj)
  show accOf (I d) ((rowRect c).emb _) = _
  rw [rowRect_ix2]; unfold rsOf; rw [e]

/-- The own chunk, stored in the own slot. -/
theorem stored_chunk (c : Fin 16) (f : Vec F S16x16x512 .bf16) (j : S16x16x512.Idx) (hj : j ∈ slotSet c) :
    ((BM.access (slotRect c)).write (Elt F) f (k0_pay27 (AM.view.readAt (Elt F) (rowRect c).toLoadRect (accOf (I c)))) Finset.univ
      : Vec F S16x16x512 .bf16) j = rsOf I c j := by
  conv_lhs => rw [← slotRect_at c j hj]
  refine (View.write_emb_of_mem (v := BM.access (slotRect c)) _ _ (Finset.mem_univ _)).trans ?_
  have e : (j 0 : Fin 16) = c := Fin.ext (mem_slotSet.mp hj)
  have e' (h : S1x16x512.numel = S16x512.numel) : Shape.reshapeEquiv h
      (ix3 (⟨0, Nat.one_pos⟩ : Fin 1) (⟨(j 1).val, slot_lt1 j⟩ : Fin 16) (⟨(j 2).val, slot_lt2 j⟩ : Fin 512))
      = ix2 (⟨(j 1).val, slot_lt1 j⟩ : Fin 16) (⟨(j 2).val, slot_lt2 j⟩ : Fin 512) :=
    Shape.reshapeEquiv_eq_of_rowMajor _ (by
      rw [Shape.rowMajor_val_three, Shape.rowMajor_val_two]
      show (j 1).val * 512 + (j 2).val = (0 * 16 + (j 1).val) * 512 + (j 2).val
      omega)
  show accOf (I c) ((rowRect c).emb (Shape.reshapeEquiv _ _)) = _
  rw [e', rowRect_ix2]; unfold rsOf; rw [e]

/-- Rows copied onto themselves on another device. -/
theorem landed_rows (c : Fin 16) (f g : Vec F S256x512 .bf16) (j : S256x512.Idx) (hj : j ∈ rowSet c) :
    ((rowsOf OM c).view.write (Elt F) f ((rowsOf OM c).view.read (Elt F) g) Finset.univ : Vec F S256x512 .bf16) j = g j := by
  conv_lhs => rw [← row_at c j hj]
  refine (View.write_emb_of_mem (v := (rowsOf OM c).view) _ _ (Finset.mem_univ _)).trans ?_
  show g ((rowRect c).emb _) = _
  rw [row_at c j hj]

/-- The own sum, stored in the own rows. -/
theorem stored_sum (c : Fin 16) (f : Vec F S256x512 .bf16) (j : S256x512.Idx) (hj : j ∈ rowSet c) :
    ((OM.access (rowRect c)).write (Elt F) f (k0_pay71 (rsOf I c)) Finset.univ : Vec F S256x512 .bf16) j = outOf I j := by
  conv_lhs => rw [← row_at c j hj]
  refine (View.write_emb_of_mem (v := OM.access (rowRect c)) _ _ (Finset.mem_univ _)).trans ?_
  have e : (⟨(j 0).val / 16, by have := row_lt j; omega⟩ : Fin 16) = c := Fin.ext (mem_rowSet.mp hj)
  unfold outOf; rw [e]; rfl

/-- The partial product's upper rows, stored. -/
theorem stored_top (i : Ins F) (f : Vec F S256x512 .bf16) (j : S256x512.Idx) (hj : j ∈ loSet) :
    ((AM.access loRect).write (Elt F) f (topOf i) Finset.univ : Vec F S256x512 .bf16) j = accOf i j := by
  have h := mem_loSet.mp hj
  have e : loRect.emb (ix2 (⟨(j 0).val, h⟩ : Fin 128) (⟨(j 1).val, col_lt j⟩ : Fin 512)) = j := by
    funext a; apply Fin.ext
    rw [ValueKit.rect_emb_unit_val]
    fin_cases a
    · show 0 + (j 0).val = (j 0).val
      omega
    · show 0 + (j 1).val = (j 1).val
      omega
  conv_lhs => rw [← e]
  refine (View.write_emb_of_mem (v := AM.access loRect) _ _ (Finset.mem_univ _)).trans ?_
  unfold accOf; rw [dif_pos h]; rfl

/-- The partial product's lower rows, stored. -/
theorem stored_bot (i : Ins F) (f : Vec F S256x512 .bf16) (j : S256x512.Idx) (hj : j ∈ hiSet) :
    ((AM.access hiRect).write (Elt F) f (botOf i) Finset.univ : Vec F S256x512 .bf16) j = accOf i j := by
  have h := mem_hiSet.mp hj
  have e : hiRect.emb (ix2 (⟨(j 0).val - 128, by have := row_lt j; omega⟩ : Fin 128) (⟨(j 1).val, col_lt j⟩ : Fin 512)) = j := by
    funext a; apply Fin.ext
    rw [ValueKit.rect_emb_unit_val]
    fin_cases a
    · show 128 + ((j 0).val - 128) = (j 0).val
      omega
    · show 0 + (j 1).val = (j 1).val
      omega
  conv_lhs => rw [← e]
  refine (View.write_emb_of_mem (v := AM.access hiRect) _ _ (Finset.mem_univ _)).trans ?_
  unfold accOf; rw [dif_neg (by omega)]; rfl

end Cert.KernelIdeal
end
-- ==== Proof.Sched.lean ====
module
public import proofs.«01_k».proof.Proof.Talk
/-!
The schedule of the semaphores: each cell's one round, what each of its counts hands over, the order in which a device may wait,
and what each device owes at launch.
-/
@[expose] public section
noncomputable section
namespace Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

/-! ## The cells -/

/-- Semaphore `s` of the kernel's array `k`: 0 the chunks sent, 1 the chunks received, 2 the sums sent, 3 the sums received. -/
def semNo (k : Fin 4) (s : Fin 16) : DmaSem sig := ⟨6 + 16 * k.val + s.val, by show _ < 70; omega⟩
theorem sem_0 (s : Fin 16) : semOf cc0_scratch2 s = semNo 0 s := by revert s; decide
theorem sem_1 (s : Fin 16) : semOf cc0_scratch3 s = semNo 1 s := by revert s; decide
theorem sem_2 (s : Fin 16) : semOf cc0_scratch4 s = semNo 2 s := by revert s; decide
theorem sem_3 (s : Fin 16) : semOf cc0_scratch5 s = semNo 3 s := by revert s; decide

/-- Which array a copy semaphore belongs to, and at which place. -/
def whichSem (n : DmaSem sig) : Option (Fin 4 × Fin 16) :=
  if h : 6 ≤ n.val then some (⟨(n.val - 6) / 16, by have h1 : n.val < 70 := n.isLt; omega⟩, ⟨(n.val - 6) % 16, Nat.mod_lt _ (by decide)⟩) else none
theorem whichSem_semNo (k : Fin 4) (s : Fin 16) : whichSem (semNo k s) = some (k, s) := by
  unfold whichSem semNo
  rw [dif_pos (by show 6 ≤ 6 + 16 * k.val + s.val; omega)]
  exact congrArg some (Prod.ext (Fin.ext (by show (6 + 16 * k.val + s.val - 6) / 16 = k.val; omega))
    (Fin.ext (by show (6 + 16 * k.val + s.val - 6) % 16 = s.val; omega)))
theorem semNo_inj {k k' : Fin 4} {s s' : Fin 16} (h : semNo k s = semNo k' s') : k = k' ∧ s = s' := by
  have := (whichSem_semNo k s).symm.trans ((congrArg whichSem h).trans (whichSem_semNo k' s'))
  exact Prod.mk.inj (Option.some.inj this)

abbrev barCell (c : Fin 16) : GSem nD τ sig := (((c : Dev nD) : Thread nD τ), .reg barS)
abbrev cell (k : Fin 4) (c s : Fin 16) : GSem nD τ sig := (((c : Dev nD) : Thread nD τ), .dma (semNo k s))

/-- What one copy counts. -/
def N : ℕ := (slotOf BM 0).view.dmaCredit
theorem N_pos : 0 < N := View.dmaCredit_pos _ (by decide)

/-! ## The schedule -/

section Sched
variable (I : Dev nD → Ins F)

/-- With its arrival device `d` hands to `c` its slot and its rows for `c`, and says that its receiving cells are open. -/
def barPay (c d : Fin 16) : sProp 𝕄 :=
  iprop((∃ f, ptB d (slotSet c) f) ∗ (∃ f, ptO d (rowSet c) fullShare f) ∗ reached ER (cell 1 d c) 0 ∗ reached ER (cell 3 d c) 0)

/-- What the copy counted at place `s` of array `k` hands over on device `c`. -/
def dmaPay (c : Fin 16) (k : Fin 4) (s : Fin 16) : sProp 𝕄 :=
  match k with
  | 0 => ptA c (rowSet s) (accOf (I c))
  | 1 => ptB c (slotSet s) (rsOf I c)
  | 2 => ptO c (rowSet c) (Transfers.shareTok fullShare 16 s) (outOf I)
  | 3 => ptO c (rowSet s) fullShare (outOf I)

/-- The duties of a semaphore of device `c`. -/
def dutiesOf (c : Fin 16) : SemLoc sig → Finset (Fin 16)
  | .reg _ => Finset.univ.erase c
  | .dma n => match whichSem n with
    | some (_, s) => if c = s then ∅ else {0}
    | none => ∅
def payOf (c : Fin 16) : SemLoc sig → Fin 16 → sProp 𝕄
  | .reg _, d => barPay c d
  | .dma n, _ => match whichSem n with
    | some (k, s) => dmaPay I c k s
    | none => iprop(emp)
def amountAt : SemLoc sig → ℕ
  | .reg _ => 1
  | .dma _ => N

/-- One round for every cell. -/
def Rd : Rounds.Schedule (GSem nD τ sig) (Fin 16) 𝕄 where
  duties g r := if r = 0 ∧ g.1.2 = .tc then dutiesOf g.1.1 g.2 else ∅
  unitless _ := False
  amount g _ _ := amountAt g.2
  payload g _ d := payOf I g.1.1 g.2 d
  amount_pos g _ _ _ := by
    obtain ⟨_, s⟩ := g
    cases s
    · exact Nat.one_pos
    · exact N_pos

instance Rd_payload_storable (g : GSem nD τ sig) (r : ℕ) (d : Fin 16) :
    BI.Storable (upEmb : UEmb _ 𝕄) ((Rd I).payload g r d) := by
  show BI.Storable upEmb (payOf I g.1.1 g.2 d)
  unfold payOf barPay dmaPay
  (repeat' split) <;> infer_instance

theorem duties_bar (c : Fin 16) : (Rd I).duties (barCell c) 0 = Finset.univ.erase c := by
  dsimp only [Rd]; exact if_pos ⟨rfl, rfl⟩
theorem duties_cell (k : Fin 4) (c s : Fin 16) (h : c ≠ s) : (Rd I).duties (cell k c s) 0 = {0} := by
  dsimp only [Rd]
  refine (if_pos ⟨rfl, rfl⟩).trans ?_
  show (match whichSem (semNo k s) with | some (_, s) => if c = s then (∅ : Finset (Fin 16)) else {0} | none => ∅) = _
  rw [whichSem_semNo]; exact if_neg h
theorem duties_own (k : Fin 4) (c : Fin 16) : (Rd I).duties (cell k c c) 0 = ∅ := by
  dsimp only [Rd]
  refine (if_pos ⟨rfl, rfl⟩).trans ?_
  show (match whichSem (semNo k c) with | some (_, s) => if c = s then (∅ : Finset (Fin 16)) else {0} | none => ∅) = _
  rw [whichSem_semNo]; exact if_pos rfl
theorem duties_later (g : GSem nD τ sig) : ∀ r, 1 ≤ r → (Rd I).duties g r = ∅ := fun r hr => by
  dsimp only [Rd]; exact if_neg fun h => by omega

theorem amount_bar (c d : Fin 16) : (Rd I).amount (barCell c) 0 d = 1 := rfl
theorem amount_cell (k : Fin 4) (c s d : Fin 16) : (Rd I).amount (cell k c s) 0 d = N := rfl

theorem expect_bar (c : Fin 16) : (Rd I).expect (barCell c) 0 = 15 := by
  unfold Schedule.expect Schedule.amountOf; rw [duties_bar]
  rw [Finset.sum_congr rfl fun d _ => amount_bar I c d, Finset.sum_const, Finset.card_erase_of_mem (Finset.mem_univ c)]
  rfl
theorem expect_cell (k : Fin 4) (c s : Fin 16) (h : c ≠ s) : (Rd I).expect (cell k c s) 0 = N := by
  unfold Schedule.expect Schedule.amountOf; rw [duties_cell I k c s h, Finset.sum_singleton, amount_cell]

theorem payload_bar (c d : Fin 16) : (Rd I).payload (barCell c) 0 d = barPay c d := rfl
theorem payload_cell (k : Fin 4) (c s d : Fin 16) : (Rd I).payload (cell k c s) 0 d = dmaPay I c k s := by
  show (match whichSem (semNo k s) with | some (k, s) => dmaPay I c k s | none => iprop(emp)) = _
  rw [whichSem_semNo]

theorem dmaPay_0 (c s : Fin 16) : dmaPay I c 0 s = ptA c (rowSet s) (accOf (I c)) := rfl
theorem dmaPay_1 (c s : Fin 16) : dmaPay I c 1 s = ptB c (slotSet s) (rsOf I c) := rfl
theorem dmaPay_2 (c s : Fin 16) : dmaPay I c 2 s = ptO c (rowSet c) (Transfers.shareTok fullShare 16 s) (outOf I) := rfl
theorem dmaPay_3 (c s : Fin 16) : dmaPay I c 3 s = ptO c (rowSet s) fullShare (outOf I) := rfl

theorem rest_bar (c : Fin 16) : bigSep ((Rd I).duties (barCell c) 0 \ ∅) (fun d => (Rd I).payload (barCell c) 0 d)
    = bigSep (Finset.univ.erase c) fun d => barPay (F := F) c d := by
  rw [Finset.sdiff_empty, duties_bar]; rfl
theorem rest_cell (k : Fin 4) (c s : Fin 16) (h : c ≠ s) :
    bigSep ((Rd I).duties (cell k c s) 0 \ ∅) (fun d => (Rd I).payload (cell k c s) 0 d) = dmaPay I c k s := by
  rw [Finset.sdiff_empty, duties_cell I k c s h, bigSep_singleton, payload_cell]

/-- The round a copy's cell ends in: no copy is counted at the own place. -/
def fin (c s : Fin 16) : ℕ := if c = s then 0 else 1
theorem duties_fin (k : Fin 4) (c s : Fin 16) : ∀ r, fin c s ≤ r → (Rd I).duties (cell k c s) r = ∅ := fun r hr => by
  unfold fin at hr
  split at hr
  · next h =>
    subst h
    cases r with
    | zero => exact duties_own I k c
    | succ r => exact duties_later I _ _ (by omega)
  · exact duties_later I _ _ hr

end Sched

/-! ## Levels and what is owed -/

def L (g : GSem nD τ sig) : Finset Unit := if g.1.2 = .tc then {()} else ∅
/-- Arrivals below received chunks below received sums. -/
def lvl : SemLoc sig → ℕ
  | .reg _ => 1
  | .dma n => match whichSem n with
    | some (k, _) => if k = 1 then 2 else if k = 3 then 3 else 0
    | none => 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Fin 16) (u : Unit) : lv (barCell c) u = 1 := rfl
theorem lv_cell (k : Fin 4) (c s : Fin 16) (u : Unit) : lv (cell k c s) u = if k = 1 then 2 else if k = 3 then 3 else 0 := by
  show (match whichSem (semNo k s) with | some (k, _) => if k = 1 then 2 else if k = 3 then 3 else 0 | none => 0) = _
  rw [whichSem_semNo]

/-- Device `c` owes `d` an arrival, a chunk and a sum. -/
def D0 (c j : Fin 16) : CellTallies nD τ sig Unit := tallyAt (barCell (fwd c j)) () 1
def D1 (c d : Fin 16) : CellTallies nD τ sig Unit := if c = d then 0 else tallyAt (cell 1 d c) () N
def D3 (c d : Fin 16) : CellTallies nD τ sig Unit := if c = d then 0 else tallyAt (cell 3 d c) () N
def O₁ (c : Fin 16) : CellTallies nD τ sig Unit := (all16.map (D3 c)).sum
def O₂ (c : Fin 16) : CellTallies nD τ sig Unit := (high8.map (D1 c)).sum + O₁ c
def O₃ (c : Fin 16) : CellTallies nD τ sig Unit := (low8.map (D1 c)).sum + O₂ c
def O₀ (c : Fin 16) : CellTallies nD τ sig Unit := (steps15.map (D0 c)).sum + O₃ c

/-- Everything owed lies above level `n`. -/
def Above (n : ℕ) (O : CellTallies nD τ sig Unit) : Prop := ∀ g u, 0 < O g u → u ∈ L g ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.add_pos_iff_pos_or_pos.mp hp with hp | hp
  · exact h g u hp
  · exact h' g u hp
theorem Above.sum {n : ℕ} {D : Fin 16 → CellTallies nD τ sig Unit} (h : ∀ s, Above n (D s)) (l : List (Fin 16)) : Above n (l.map D).sum := by
  induction l with
  | nil => exact Above.zero n
  | cons s l ih => rw [List.map_cons, List.sum_cons]; exact (h s).add ih
theorem Above.tally {n k : ℕ} (c : Dev nD) (sm : SemLoc sig) (h : n < lvl sm) : Above n (tallyAt ((c : Thread nD τ), sm) () k) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)

theorem above_D0 (c j : Fin 16) : Above 0 (D0 c j) := Above.tally _ _ Nat.one_pos
theorem above_D1 (c d : Fin 16) : Above 1 (D1 c d) := by
  unfold D1; split
  · exact Above.zero _
  · exact Above.tally _ _ (by show 1 < lv (cell 1 d c) (); rw [lv_cell]; decide)
theorem above_D3 (c d : Fin 16) : Above 2 (D3 c d) := by
  unfold D3; split
  · exact Above.zero _
  · exact Above.tally _ _ (by show 2 < lv (cell 3 d c) (); rw [lv_cell]; decide)
theorem Above.mono {m n : ℕ} (h : m ≤ n) {O : CellTallies nD τ sig Unit} (hO : Above n O) : Above m O :=
  fun g u hp => ⟨(hO g u hp).1, lt_of_le_of_lt h (hO g u hp).2⟩
theorem above_O₁ (c : Fin 16) : Above 2 (O₁ c) := Above.sum (above_D3 c) _
theorem above_O₃ (c : Fin 16) : Above 1 (O₃ c) :=
  (Above.sum (above_D1 c) _).add ((Above.sum (above_D1 c) _).add ((above_O₁ c).mono (by decide)))
theorem above_O₀ (c : Fin 16) : Above 0 (O₀ c) := (Above.sum (above_D0 c) _).add ((above_O₃ c).mono (by decide))

variable (F) in
/-- The levels, as every device may consult them. -/
@[irreducible] def levs : sProp 𝕄 := levAts L lv
instance levs_persistent : BI.Persistent (levs F) := by unfold levs; infer_instance

/-- A device may wait on a cell that lies no higher than what it owes. -/
theorem mayWait (c : Dev nD) (sm : SemLoc sig) (O : CellTallies nD τ sig Unit) (h : Above (lvl sm) O) :
    levs F ⊢ MayWait (c : Thread nD τ) sm () O := by
  unfold levs
  exact MayOwe.of_cut (L := L) (lev := lv) (lvl sm) (fun p hp => by rw [Finset.mem_singleton.mp hp, L_tc]; exact Finset.mem_singleton_self _)
    (fun g u hg => (h g u hg).1)
    (fun p hp => by rw [Finset.mem_singleton.mp hp]; exact le_refl _)
    (fun g u hg => (h g u hg).2)

end Cert.KernelIdeal
end
-- ==== Proof.Steps.lean ====
module
public import proofs.«01_k».proof.Proof.Sched
/-!
One block of the body at one peer, run under the protocol, and a run of blocks over a list of peers.
-/
@[expose] public section
noncomputable section
namespace Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

/-- A program of device `c`'s core, run to `Q`. -/
abbrev WP {α : Type} (c : Fin 16) (p : PR F α) (Q : α → sProp 𝕄) : sProp 𝕄 :=
  wp frame (wpE (defs₀ (F := F)) 𝒱₀ ((c : Dev nD) : Thread nD τ) none) Set.univ p Q

theorem WP_bind {α β : Type} (c : Fin 16) (p : PR F α) (k : α → PR F β) (Q : β → sProp 𝕄) :
    WP c (p >>= k) Q = WP c p fun a => WP c (k a) Q := wp_bind _ _ _ _ _ _

theorem WP_pure {α : Type} (c : Fin 16) (a : α) (Q : α → sProp 𝕄) : Q a ⊢ WP c (Pure.pure a) Q := by
  show Q a ⊢ WP c (.ret a) Q
  unfold WP; rw [wp_ret]
  iintro H; imodintro; iexact H

/-! ## Families -/

section Families
variable {α : Type} [DecidableEq α]
theorem fam_insert {s : Finset α} {i : α} (h : i ∉ s) (Φ : α → sProp 𝕄) : bigSep (insert i s) Φ = iprop(Φ i ∗ bigSep s Φ) := bigSep_insert h
theorem fam_sep (s : Finset α) (Φ Ψ : α → sProp 𝕄) : bigSep s (fun i => iprop(Φ i ∗ Ψ i)) = iprop(bigSep s Φ ∗ bigSep s Ψ) := bigSep_sep s Φ Ψ
theorem fam_union {s t : Finset α} (h : Disjoint s t) (Φ : α → sProp 𝕄) : bigSep (s ∪ t) Φ = iprop(bigSep s Φ ∗ bigSep t Φ) := bigSep_union h
theorem fam_at {s : Finset α} {i : α} (h : i ∈ s) (Φ : α → sProp 𝕄) : bigSep s Φ ⊢ Φ i := bigSep_elim h
theorem fam_mono {s : Finset α} {Φ Ψ : α → sProp 𝕄} (h : ∀ i ∈ s, Φ i ⊢ Ψ i) : bigSep s Φ ⊢ bigSep s Ψ := bigSep_mono h
theorem fam_split [Fintype α] (c : α) (Φ : α → sProp 𝕄) : bigSep Finset.univ Φ = iprop(Φ c ∗ bigSep (Finset.univ.erase c) Φ) := bigSep_univ_split c
/-- A family that is `A` at `c` and `Φ` elsewhere. -/
theorem fam_if [Fintype α] (c : α) (A Φ : α → sProp 𝕄) :
    bigSep Finset.univ (fun s => if c = s then A s else Φ s) = iprop(A c ∗ bigSep (Finset.univ.erase c) Φ) := by
  rw [fam_split c, if_pos rfl]
  congr 1
  exact bigSep_congr fun s hs => if_neg (Finset.ne_of_mem_erase hs).symm
end Families

/-! ## A run of blocks -/

/-- A list of blocks, each taking its own `X s` to `Y s` and moving a shared state along the list, runs the whole families. -/
theorem seqs_run {α : Type} [DecidableEq α] {β : Type} (c : Fin 16) (blk : α → PR F PUnit) (P : sProp 𝕄) [BI.Persistent P] (X Y : α → sProp 𝕄)
    (E : List α → sProp 𝕄) (K : PR F β) (Q : β → sProp 𝕄) (l : List α) (hl : l.Nodup)
    (h : ∀ s ∈ l, ∀ (l' : List α) (Kt : PUnit → sProp 𝕄), iprop(P ∗ X s ∗ E (s :: l') ∗ (Y s ∗ E l' -∗ Kt ⟨⟩)) ⊢ WP c (blk s) Kt) :
    iprop(P ∗ bigSep l.toFinset X ∗ E l ∗ (bigSep l.toFinset Y ∗ E [] -∗ WP c K Q)) ⊢ WP c (seqs (l.map blk) K) Q := by
  induction l with
  | nil =>
    rw [List.map_nil, seqs_nil, List.toFinset_nil, bigSep_empty, bigSep_empty]
    iintro ⟨-, -, HE, Hk⟩
    iapply Hk
    isplitr; · iempintro
    iexact HE
  | cons s l ih =>
    rw [List.map_cons, seqs_cons, WP_bind, List.toFinset_cons]
    have hs : s ∉ l.toFinset := fun hm => (List.nodup_cons.mp hl).1 (List.mem_toFinset.mp hm)
    rw [fam_insert hs, fam_insert hs]
    have ih' := ih (List.nodup_cons.mp hl).2 (fun t ht => h t (List.mem_cons_of_mem _ ht))
    iintro ⟨#HP, ⟨HX, HXs⟩, HE, Hk⟩
    iapply (h s List.mem_cons_self l)
    isplitr; · iexact HP
    isplitl [HX]; · iexact HX
    isplitl [HE]; · iexact HE
    iintro ⟨HY, HE⟩
    iapply ih'
    isplitr; · iexact HP
    isplitl [HXs]; · iexact HXs
    isplitl [HE]; · iexact HE
    iintro ⟨HYs, HE⟩
    iapply Hk
    isplitr [HE]
    · isplitl [HY] <;> iassumption
    · iexact HE

/-- A load of a whole array reads inside the rectangle. -/
theorem load_sub {b : Ref sig .tc} (r : Rect b.ty.shape) : (Memref.whole b).view.setOn r.toLoadRect.set ⊆ r.set := by
  intro i hi
  obtain ⟨x, hx, rfl⟩ := Finset.mem_map.mp hi
  exact hx
/-- A store to a whole array writes inside the rectangle. -/
theorem store_sub {b : Ref sig .tc} (r : Rect b.ty.shape) : ((Memref.whole b).access r).setOn Finset.univ ⊆ r.set := by
  rw [View.setOn_univ]; exact subset_of_eq (View.set_slice_whole _ _)

variable (I : Dev nD → Ins F) (κ : GSem nD τ sig → ℕ) (c : Fin 16)

/-! ## What every step may consult -/

/-- All cells' invariants, that every arrival cell and the own copy cells are open, and the levels. -/
def ctx : sProp 𝕄 :=
  iprop((bigSep Finset.univ fun d : Fin 16 => cellInv ER (Rd I) (κ (barCell d)) (barCell d))
    ∗ (bigSep Finset.univ fun x : Fin 16 × Fin 4 × Fin 16 => cellInv ER (Rd I) (κ (cell x.2.1 x.1 x.2.2)) (cell x.2.1 x.1 x.2.2))
    ∗ (bigSep Finset.univ fun d : Fin 16 => reached ER (barCell d) 0)
    ∗ (bigSep Finset.univ fun x : Fin 4 × Fin 16 => reached ER (cell x.1 c x.2) 0)
    ∗ levs F)

instance ctx_persistent : BI.Persistent (ctx I κ c) := by unfold ctx; infer_instance

theorem ctx_bar (d : Fin 16) : ctx I κ c ⊢ cellInv ER (Rd I) (κ (barCell d)) (barCell d) := by
  unfold ctx
  iintro ⟨#H, -⟩
  iapply (fam_at (Finset.mem_univ d) (fun d : Fin 16 => (cellInv ER (Rd I) (κ (barCell d)) (barCell d) : sProp 𝕄))); iexact H
theorem ctx_cell (k : Fin 4) (d s : Fin 16) : ctx I κ c ⊢ cellInv ER (Rd I) (κ (cell k d s)) (cell k d s) := by
  unfold ctx
  iintro ⟨-, #H, -⟩
  iapply (fam_at (Finset.mem_univ (d, k, s))
    (fun x : Fin 16 × Fin 4 × Fin 16 => (cellInv ER (Rd I) (κ (cell x.2.1 x.1 x.2.2)) (cell x.2.1 x.1 x.2.2) : sProp 𝕄))); iexact H
theorem ctx_barR (d : Fin 16) : ctx I κ c ⊢ reached ER (barCell d) 0 := by
  unfold ctx
  iintro ⟨-, -, #H, -⟩
  iapply (fam_at (Finset.mem_univ d) (fun d : Fin 16 => (reached ER (barCell d) 0 : sProp 𝕄))); iexact H
theorem ctx_cellR (k : Fin 4) (s : Fin 16) : ctx I κ c ⊢ reached ER (cell k c s) 0 := by
  unfold ctx
  iintro ⟨-, -, -, #H, -⟩
  iapply (fam_at (Finset.mem_univ (k, s)) (fun x : Fin 4 × Fin 16 => (reached ER (cell x.1 c x.2) 0 : sProp 𝕄))); iexact H
theorem ctx_lev : ctx I κ c ⊢ levs F := by
  unfold ctx
  iintro ⟨-, -, -, -, #H⟩
  iexact H

/-- What is owed, whatever has been waited for. -/
abbrev owing (O : CellTallies nD τ sig Unit) : sProp 𝕄 := iprop(∃ W, owes ((c : Dev nD) : Thread nD τ) O W)

/-! ## The arrival signals -/

abbrev XS (d : Fin 16) : sProp 𝕄 :=
  iprop(dutyTok ER (barCell d) 0 c ∗ (∃ f, ptB c (slotSet d) f) ∗ (∃ f, ptO c (rowSet d) fullShare f))

theorem sig_run (j : Fin 16) (hj : c ≠ fwd c j) (R : CellTallies nD τ sig Unit) (Kt : PUnit → sProp 𝕄) :
    iprop(ctx I κ c ∗ XS c (fwd c j) ∗ owing c (D0 c j + R) ∗ (iprop(emp) ∗ owing c R -∗ Kt ⟨⟩)) ⊢ WP c (sigBlk c j) Kt := by
  unfold sigBlk semSignalWord
  iintro ⟨#Hc, ⟨Ht, HB, HO⟩, ⟨%W, Hw⟩, Hk⟩
  iapply (Rounds.wp_signal 𝒱₀ ER (Rd I) ((c : Dev nD) : Thread nD τ) none (dst := ((fwd c j : Dev nD) : Thread nD τ)) (sem := barS) (r := 0) (d := c)
      (κ := κ (barCell (fwd c j))) (k' := 1)
      (by rw [duties_bar]; exact Finset.mem_erase.mpr ⟨hj, Finset.mem_univ _⟩) rfl () R (add_comm _ _)) $$ [Ht HB HO Hw]
  · isplitr; · iapply (ctx_bar I κ c (fwd c j)); iexact Hc
    isplitl [Hw]; · iexact Hw
    isplitl [Ht]; · iexact Ht
    isplitl [HB HO]
    · rw [payload_bar]; unfold barPay
      isplitl [HB]; · iexact HB
      isplitl [HO]; · iexact HO
      isplitr; · iapply (ctx_cellR I κ c 1 (fwd c j)); iexact Hc
      iapply (ctx_cellR I κ c 3 (fwd c j)); iexact Hc
    iapply (ctx_barR I κ c (fwd c j)); iexact Hc
  iintro Hw
  rw [wp_ret]; imodintro
  iapply Hk
  isplitr; · iempintro
  iexists W; iexact Hw

/-! ## One wait for a copy -/

theorem wait_run (k : Fin 4) (s : Fin 16) (h : c ≠ s) {sp sp' : Space} {t t' : Shape} {e e' : EltTy} {src : Memref sig .tc sp' t' e'}
    {dst : Memref sig .tc sp t e} {a : DmaSem sig} (ha : a = semNo k s) {hsrc : src.view.WordExact} {hdst : dst.view.WordExact} (hN : dst.view.dmaCredit = N)
    (O : CellTallies nD τ sig Unit) (hO : Above (lvl (.dma (semNo k s))) O) {α : Type} (K : PUnit → PR F α) (Q : α → sProp 𝕄) :
    iprop(ctx I κ c ∗ atPos ER (cell k c s) 0 ∅ 0 ∗ cred (tallyAt (cell k c s) () N) ∗ owing c O)
      ⊢ iprop((atPos ER (cell k c s) 1 ∅ 0 ∗ dmaPay I c k s ∗ owing c O -∗ WP c (K ⟨⟩) Q)
        -∗ WP c (.op (.waitDma2 a src dst hsrc hdst) K) Q) := by
  subst ha
  iintro ⟨#Hc, Hat, Hcr, ⟨%W, Hw⟩⟩ Hk
  iapply (Rounds.wp_wait_rest_token 𝒱₀ ER (Rd I) ((c : Dev nD) : Thread nD τ) none (κ := κ (cell k c s))
      (wpE_waitDma2_eq 𝒱₀ ((c : Dev nD) : Thread nD τ) none Set.univ) (Set.mem_univ _) () (O := O) (W := W) (R := 0) (m := 0) (T := ∅)
      ((Nat.zero_add _).trans (hN.trans (expect_cell I k c s h).symm))) $$ [Hat Hcr Hw]
  · isplitr; · iapply (ctx_cell I κ c k c s); iexact Hc
    isplitl [Hcr]; · rw [hN]; iexact Hcr
    isplitl [Hw]; · iexact Hw
    isplitr; · iapply ((ctx_lev I κ c).trans (mayWait c (.dma (semNo k s)) O hO)); iexact Hc
    iexact Hat
  rw [rest_cell I k c s h]
  iintro ⟨Hw, Hat, -, Hpay⟩
  iapply Hk
  isplitl [Hat]; · iexact Hat
  isplitl [Hpay]; · iexact Hpay
  iexists _; iexact Hw

/-! ## One copy to a peer -/

theorem send_run (k k' : Fin 4) (s : Fin 16) (h : c ≠ s) {e : EltTy} {t : Shape} {src dst : Memref sig .tc .vmem t e} {a b : DmaSem sig}
    (ha : a = semNo k s) (hb : b = semNo k' c) {hsc : dst.view.ref.isScScratch = false} {hsrc : src.view.WordExact} {hdst : dst.view.WordExact}
    {hsem : DmaTarget.Typed .vmem (.dma b) (.remote (Dev.tc (s : Dev nD)) dst (.dma a) hsc)} (hN : dst.view.dmaCredit = N) {q : PosShare TreeShare}
    {fs : Buf (Elt F) (src.view.loc ((c : Dev nD) : Thread nD τ))} {fd : Buf (Elt F) (dst.view.loc ((s : Dev nD) : Thread nD τ))}
    (hpay : (src.view.loc ((c : Dev nD) : Thread nD τ) ↦[src.view.set]{q} fs) ⊢ dmaPay I c k s)
    (hpay' : (dst.view.loc ((s : Dev nD) : Thread nD τ) ↦[dst.view.set]{fullShare} (dst.view.write (Elt F) fd (src.view.read (Elt F) fs) Finset.univ))
      ⊢ dmaPay I s k' c)
    (O : CellTallies nD τ sig Unit) {α : Type} (K : PUnit → PR F α) (Q : α → sProp 𝕄) :
    iprop(ctx I κ c ∗ (src.view.loc ((c : Dev nD) : Thread nD τ) ↦[src.view.set]{q} fs) ∗ (dst.view.loc ((s : Dev nD) : Thread nD τ) ↦[dst.view.set]{fullShare} fd)
        ∗ owing c (tallyAt (cell k' s c) () N + O) ∗ dutyTok ER (cell k c s) 0 0 ∗ dutyTok ER (cell k' s c) 0 0 ∗ reached ER (cell k' s c) 0)
      ⊢ iprop((cred (tallyAt (cell k c s) () N) ∗ owing c O -∗ WP c (K ⟨⟩) Q)
        -∗ WP c (.op (.enqueueDma src (.remote (Dev.tc (s : Dev nD)) dst (.dma a) hsc) (.dma b) hsrc hdst hsem) K) Q) := by
  subst ha hb
  iintro ⟨#Hc, Hs, Hd, ⟨%W, Hw⟩, Ht0, Ht1, #Hr⟩ Hk
  iapply (Rounds.wp_send_pointsTo 𝒱₀ ER (Rd I) ((c : Dev nD) : Thread nD τ) none (c' := ((s : Dev nD) : Thread nD τ)) (src := src) (dst := dst)
    (sS := .dma (semNo k s)) (sem := .dma (semNo k' c)) (q := q) (fs := fs) (κ₁ := κ (cell k c s)) (κ₂ := κ (cell k' s c))
    (r₁ := 0) (r₂ := 0) (d₁ := 0) (d₂ := 0) (fd := fd)
    (by rw [duties_cell I k c s h]; exact Finset.mem_singleton_self _) (by rw [duties_cell I k' s c (Ne.symm h)]; exact Finset.mem_singleton_self _)
    () () N hN (amount_cell I k c s 0) (amount_cell I k' s c 0) O (add_comm _ _) (W := W)
    (by rw [payload_cell]; exact hpay) (by rw [payload_cell]; exact hpay')) $$ [Hs Hd Ht0 Ht1 Hw]
  · isplitr; · iapply (ctx_cell I κ c k c s); iexact Hc
    isplitr; · iapply (ctx_cell I κ c k' s c); iexact Hc
    isplitl [Hs]; · iexact Hs
    isplitl [Hd]; · iexact Hd
    isplitl [Hw]; · iexact Hw
    isplitl [Ht0]; · iexact Ht0
    isplitr; · iapply (ctx_cellR I κ c k s); iexact Hc
    isplitl [Ht1]; · iexact Ht1
    iexact Hr
  iintro ⟨Hcr, Hw⟩
  iapply Hk
  isplitl [Hcr]; · iexact Hcr
  iexists W; iexact Hw

/-! ## A chunk goes out -/

abbrev XO (s : Fin 16) : sProp 𝕄 :=
  if c = s then iprop(∃ f, ptB c (slotSet c) f)
  else iprop((dutyTok ER (cell 0 c s) 0 0 ∗ dutyTok ER (cell 1 s c) 0 0) ∗ (∃ f, ptB s (slotSet c) f) ∗ reached ER (cell 1 s c) 0)
abbrev YO (s : Fin 16) : sProp 𝕄 :=
  if c = s then iprop(ptA c (rowSet c) (accOf (I c)) ∗ ptB c (slotSet c) (rsOf I c)) else cred (tallyAt (cell 0 c s) () N)

theorem own_chunk (f : Vec F S16x16x512 .bf16) :
    ptB c (slotSet c) ((BM.access (slotRect c)).write (Elt F) f (k0_pay27 (AM.view.readAt (Elt F) (rowRect c).toLoadRect (accOf (I c)))) Finset.univ)
      ⊢ ptB c (slotSet c) (rsOf I c) := Entails.of_eq (pointsTo_congr fun j hj => stored_chunk I c f j hj)

theorem out_run (s : Fin 16) (R : CellTallies nD τ sig Unit) (Kt : PUnit → sProp 𝕄) :
    iprop(ctx I κ c ∗ (ptA c (rowSet s) (accOf (I c)) ∗ XO c s) ∗ owing c (D1 c s + R) ∗ (YO I c s ∗ owing c R -∗ Kt ⟨⟩))
      ⊢ WP c (outBlk AM (Memref.isWhole_whole _) BM (Memref.isWhole_whole _) cc0_scratch2 cc0_scratch3 c s) Kt := by
  unfold outBlk sendBlk ownBlk XO YO D1
  by_cases h : c = s
  · subst h
    rw [if_neg (Decidable.not_not.mpr rfl)]
    simp only [↓reduceIte, zero_add]
    iintro ⟨#Hc, ⟨HA, ⟨%f, HB⟩⟩, HO, Hk⟩
    iapply (wp_load 𝒱₀ ((c : Dev nD) : Thread nD τ) none Set.univ (m := AM) (r := (rowRect c).toLoadRect) (S := rowSet c) (load_sub _)) $$ [HA]
    · iexact HA
    iintro HA
    iapply (wp_load 𝒱₀ ((c : Dev nD) : Thread nD τ) none Set.univ (m := BM) (r := (slotRect c).toLoadRect) (S := slotSet c) (load_sub _)) $$ [HB]
    · iexact HB
    iintro HB
    iapply (wp_store 𝒱₀ ((c : Dev nD) : Thread nD τ) none Set.univ (m := BM) (r := slotRect c) (S := slotSet c) (store_sub _)) $$ [HB]
    · iexact HB
    iintro HB
    rw [wp_ret]; imodintro
    iapply Hk
    isplitr [HO]
    · isplitl [HA]; · iexact HA
      iapply (own_chunk I c f); iexact HB
    iexact HO
  · rw [if_pos h]
    simp only [if_neg h]
    iintro ⟨#Hc, ⟨HA, ⟨Ht0, Ht1⟩, ⟨%f, HB⟩, #Hr⟩, HO, Hk⟩
    iapply (send_run I κ c 0 1 s h (src := rowsOf AM s) (dst := slotOf BM c) (sem_0 s) (sem_1 c) rfl (q := fullShare) (fs := accOf (I c)) (fd := f)
      (by rw [rowsOfA_set]; exact BI.Entails.refl _)
      (by rw [slotOf_set]; exact Entails.of_eq (pointsTo_congr fun j hj => landed_chunk I s c f j hj)) R _ _) $$ [HA HB Ht0 Ht1 HO]
    · isplitr; · iexact Hc
      isplitl [HA]; · rw [rowsOfA_set]; iexact HA
      isplitl [HB]; · rw [slotOf_set]; iexact HB
      isplitl [HO]; · iexact HO
      isplitl [Ht0]; · iexact Ht0
      isplitl [Ht1]; · iexact Ht1
      iexact Hr
    iintro ⟨Hcr, HO⟩
    iapply WP_pure
    iapply Hk
    isplitl [Hcr]; · iexact Hcr
    iexact HO

/-! ## The chunks arrive -/

abbrev XR (s : Fin 16) : sProp 𝕄 := iprop(atPos ER (cell 1 c s) 0 ∅ 0 ∗ if c = s then emp else cred (tallyAt (cell 1 c s) () N))
abbrev YR (s : Fin 16) : sProp 𝕄 := iprop(atPos ER (cell 1 c s) (fin c s) ∅ 0 ∗ if c = s then emp else ptB c (slotSet s) (rsOf I c))

theorem rsWait_run (s : Fin 16) (Kt : PUnit → sProp 𝕄) :
    iprop(ctx I κ c ∗ XR c s ∗ owing c (O₁ c) ∗ (YR I c s ∗ owing c (O₁ c) -∗ Kt ⟨⟩))
      ⊢ WP c (rsWaitBlk AM (Memref.isWhole_whole _) BM (Memref.isWhole_whole _) cc0_scratch3 c s) Kt := by
  unfold rsWaitBlk XR YR fin
  by_cases h : c = s
  · rw [if_neg (Decidable.not_not.mpr h)]
    simp only [if_pos h]
    iintro ⟨#Hc, ⟨Hat, -⟩, HO, Hk⟩
    iapply WP_pure
    iapply Hk
    isplitl [Hat]
    · isplitl [Hat]; · iexact Hat
      iempintro
    iexact HO
  · rw [if_pos h]
    simp only [if_neg h]
    iintro ⟨#Hc, ⟨Hat, Hcr⟩, HO, Hk⟩
    iapply (wait_run I κ c 1 s h (src := rowsOf AM 0) (dst := slotOf BM s) (sem_1 s) rfl (O₁ c)
      (by show Above (lv (cell 1 c s) ()) _; rw [lv_cell]; exact above_O₁ c) _ _) $$ [Hat Hcr HO]
    · isplitr; · iexact Hc
      isplitl [Hat]; · iexact Hat
      isplitl [Hcr]; · iexact Hcr
      iexact HO
    iintro ⟨Hat, Hpay, HO⟩
    iapply WP_pure
    iapply Hk
    isplitr [HO]
    · isplitl [Hat]; · iexact Hat
      rw [← dmaPay_1]; iexact Hpay
    iexact HO

/-! ## A sum goes out -/

abbrev XG (s : Fin 16) : sProp 𝕄 :=
  iprop(ptO c (rowSet c) (Transfers.shareTok fullShare 16 s) (outOf I)
    ∗ if c = s then emp else iprop((dutyTok ER (cell 2 c s) 0 0 ∗ dutyTok ER (cell 3 s c) 0 0) ∗ (∃ f, ptO s (rowSet c) fullShare f) ∗ reached ER (cell 3 s c) 0))
abbrev YG (s : Fin 16) : sProp 𝕄 :=
  if c = s then ptO c (rowSet c) (Transfers.shareTok fullShare 16 s) (outOf I) else cred (tallyAt (cell 2 c s) () N)

theorem agSend_run (s : Fin 16) (R : CellTallies nD τ sig Unit) (Kt : PUnit → sProp 𝕄) :
    iprop(ctx I κ c ∗ XG I c s ∗ owing c (D3 c s + R) ∗ (YG I c s ∗ owing c R -∗ Kt ⟨⟩))
      ⊢ WP c (agSendBlk OM (Memref.isWhole_whole _) cc0_scratch4 cc0_scratch5 c s) Kt := by
  unfold agSendBlk XG YG D3
  by_cases h : c = s
  · rw [if_neg (Decidable.not_not.mpr h)]
    simp only [if_pos h, zero_add]
    iintro ⟨#Hc, ⟨HP, -⟩, HO, Hk⟩
    iapply WP_pure
    iapply Hk
    isplitl [HP]; · iexact HP
    iexact HO
  · rw [if_pos h]
    simp only [if_neg h]
    iintro ⟨#Hc, ⟨HP, ⟨Ht0, Ht1⟩, ⟨%f, HB⟩, #Hr⟩, HO, Hk⟩
    iapply (send_run I κ c 2 3 s h (src := rowsOf OM c) (dst := rowsOf OM c) (sem_2 s) (sem_3 c) rfl (q := Transfers.shareTok fullShare 16 s)
      (fs := outOf I) (fd := f)
      (by rw [rowsOfO_set]; exact BI.Entails.refl _)
      (by rw [rowsOfO_set]; exact Entails.of_eq (pointsTo_congr fun j hj => landed_rows c f (outOf I) j hj)) R _ _) $$ [HP HB Ht0 Ht1 HO]
    · isplitr; · iexact Hc
      isplitl [HP]; · rw [rowsOfO_set]; iexact HP
      isplitl [HB]; · rw [rowsOfO_set]; iexact HB
      isplitl [HO]; · iexact HO
      isplitl [Ht0]; · iexact Ht0
      isplitl [Ht1]; · iexact Ht1
      iexact Hr
    iintro ⟨Hcr, HO⟩
    iapply WP_pure
    iapply Hk
    isplitl [Hcr]; · iexact Hcr
    iexact HO

/-! ## The sums arrive -/

abbrev XS3 (s : Fin 16) : sProp 𝕄 := iprop(atPos ER (cell 3 c s) 0 ∅ 0 ∗ if c = s then emp else cred (tallyAt (cell 3 c s) () N))
abbrev YS3 (s : Fin 16) : sProp 𝕄 := iprop(atPos ER (cell 3 c s) (fin c s) ∅ 0 ∗ if c = s then emp else ptO c (rowSet s) fullShare (outOf I))

theorem agWait_run (s : Fin 16) (Kt : PUnit → sProp 𝕄) :
    iprop(ctx I κ c ∗ XS3 c s ∗ owing c 0 ∗ (YS3 I c s ∗ owing c 0 -∗ Kt ⟨⟩))
      ⊢ WP c (agWaitBlk OM (Memref.isWhole_whole _) cc0_scratch5 c s) Kt := by
  unfold agWaitBlk XS3 YS3 fin
  by_cases h : c = s
  · rw [if_neg (Decidable.not_not.mpr h)]
    simp only [if_pos h]
    iintro ⟨#Hc, ⟨Hat, -⟩, HO, Hk⟩
    iapply WP_pure
    iapply Hk
    isplitl [Hat]
    · isplitl [Hat]; · iexact Hat
      iempintro
    iexact HO
  · rw [if_pos h]
    simp only [if_neg h]
    iintro ⟨#Hc, ⟨Hat, Hcr⟩, HO, Hk⟩
    iapply (wait_run I κ c 3 s h (src := rowsOf OM 0) (dst := rowsOf OM s) (sem_3 s) rfl 0 (Above.zero _) _ _) $$ [Hat Hcr HO]
    · isplitr; · iexact Hc
      isplitl [Hat]; · iexact Hat
      isplitl [Hcr]; · iexact Hcr
      iexact HO
    iintro ⟨Hat, Hpay, HO⟩
    iapply WP_pure
    iapply Hk
    isplitr [HO]
    · isplitl [Hat]; · iexact Hat
      rw [← dmaPay_3]; iexact Hpay
    iexact HO

/-! ## The own copies have left -/

abbrev XD (s : Fin 16) : sProp 𝕄 :=
  iprop((atPos ER (cell 0 c s) 0 ∅ 0 ∗ atPos ER (cell 2 c s) 0 ∅ 0)
    ∗ if c = s then emp else iprop(cred (tallyAt (cell 0 c s) () N) ∗ cred (tallyAt (cell 2 c s) () N)))
abbrev YD (s : Fin 16) : sProp 𝕄 :=
  iprop((atPos ER (cell 0 c s) (fin c s) ∅ 0 ∗ atPos ER (cell 2 c s) (fin c s) ∅ 0)
    ∗ if c = s then emp else iprop(ptA c (rowSet s) (accOf (I c)) ∗ ptO c (rowSet c) (Transfers.shareTok fullShare 16 s) (outOf I)))

theorem drain_run (s : Fin 16) (Kt : PUnit → sProp 𝕄) :
    iprop(ctx I κ c ∗ XD c s ∗ owing c 0 ∗ (YD I c s ∗ owing c 0 -∗ Kt ⟨⟩))
      ⊢ WP c (drainBlk OM (Memref.isWhole_whole _) AM (Memref.isWhole_whole _) BM (Memref.isWhole_whole _) cc0_scratch2 cc0_scratch4 c s) Kt := by
  unfold drainBlk XD YD fin
  by_cases h : c = s
  · rw [if_neg (Decidable.not_not.mpr h)]
    simp only [if_pos h]
    iintro ⟨#Hc, ⟨Hat, -⟩, HO, Hk⟩
    iapply WP_pure
    iapply Hk
    isplitl [Hat]
    · isplitl [Hat]; · iexact Hat
      iempintro
    iexact HO
  · rw [if_pos h]
    simp only [if_neg h]
    iintro ⟨#Hc, ⟨⟨Hat0, Hat2⟩, Hcr0, Hcr2⟩, HO, Hk⟩
    iapply (wait_run I κ c 0 s h (src := slotOf BM c) (dst := rowsOf AM s) (sem_0 s) rfl 0 (Above.zero _) _ _) $$ [Hat0 Hcr0 HO]
    · isplitr; · iexact Hc
      isplitl [Hat0]; · iexact Hat0
      isplitl [Hcr0]; · iexact Hcr0
      iexact HO
    iintro ⟨Hat0, Hp0, HO⟩
    iapply (wait_run I κ c 2 s h (src := rowsOf OM c) (dst := rowsOf OM c) (sem_2 s) rfl 0 (Above.zero _) _ _) $$ [Hat2 Hcr2 HO]
    · isplitr; · iexact Hc
      isplitl [Hat2]; · iexact Hat2
      isplitl [Hcr2]; · iexact Hcr2
      iexact HO
    iintro ⟨Hat2, Hp2, HO⟩
    iapply WP_pure
    iapply Hk
    isplitr [HO]
    · isplitl [Hat0 Hat2]
      · isplitl [Hat0]; · iexact Hat0
        iexact Hat2
      isplitl [Hp0]; · rw [← dmaPay_0]; iexact Hp0
      rw [← dmaPay_2]; iexact Hp2
    iexact HO

end Cert.KernelIdeal
end
-- ==== Proof.Phases.lean ====
module
public import proofs.«01_k».proof.Proof.Steps
/-!
The body's runs of blocks, one phase each: the arrivals, the chunks sent and received, the sums sent and received, the drain.
-/
@[expose] public section
noncomputable section
namespace Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

theorem via {P P' R : sProp 𝕄} (h : P ⊢ P') (h' : P' ⊢ R) : P ⊢ R := BI.Entails.trans h h'

/-! ## The peers in the order of the arrivals -/

theorem fwd_inj (c : Fin 16) : ∀ j j' : Fin 16, fwd c j = fwd c j' → j = j' := by
  revert c; decide
theorem fwd_ne (c j : Fin 16) (h : j ∈ steps15) : c ≠ fwd c j := by
  revert j c; decide
theorem erase_fwd (c : Fin 16) : Finset.univ.erase c = steps15.toFinset.image (fwd c) := by
  revert c; decide
theorem all16_set : all16.toFinset = (Finset.univ : Finset (Fin 16)) := by decide

theorem fam_fwd (c : Fin 16) (Φ : Fin 16 → sProp 𝕄) :
    bigSep (Finset.univ.erase c) Φ = bigSep steps15.toFinset fun j => Φ (fwd c j) := by
  rw [erase_fwd]
  generalize steps15.toFinset = s
  induction s using Finset.induction_on with
  | empty => rw [Finset.image_empty, bigSep_empty, bigSep_empty]
  | insert j s hj ih =>
    have hj' : fwd c j ∉ s.image (fwd c) := fun h => by
      obtain ⟨j', h', e⟩ := Finset.mem_image.mp h
      exact hj (fwd_inj c _ _ e ▸ h')
    rw [Finset.image_insert, bigSep_insert hj', bigSep_insert hj, ih]

/-- A family over everyone, lower and upper half. -/
theorem fam_halves (Φ : Fin 16 → sProp 𝕄) : bigSep Finset.univ Φ = iprop(bigSep low8.toFinset Φ ∗ bigSep high8.toFinset Φ) := by
  rw [low_high, fam_union low_high_disj]

variable (I : Dev nD → Ins F) (κ : GSem nD τ sig → ℕ) (c : Fin 16)

theorem sigs_run (K : PR F PUnit) (Q : PUnit → sProp 𝕄) :
    iprop(ctx I κ c ∗ bigSep (Finset.univ.erase c) (XS c) ∗ owing c (O₀ c) ∗ (owing c (O₃ c) -∗ WP c K Q))
      ⊢ WP c (seqs (steps15.map (sigBlk c)) K) Q := by
  rw [fam_fwd]
  refine via ?_ (seqs_run c (sigBlk c) (ctx I κ c) (fun j => XS c (fwd c j)) (fun _ => iprop(emp))
    (fun l => owing c ((l.map (D0 c)).sum + O₃ c)) K Q steps15 (by decide) (fun j hj l Kt => ?_))
  · unfold O₀
    iintro ⟨#Hc, HX, HO, Hk⟩
    isplitr; · iexact Hc
    isplitl [HX]; · iexact HX
    isplitl [HO]; · iexact HO
    iintro ⟨-, HO⟩
    iapply Hk
    rw [List.map_nil, List.sum_nil, zero_add]; iexact HO
  · rw [List.map_cons, List.sum_cons, add_assoc]
    exact sig_run I κ c j (fwd_ne c j hj) _ Kt

theorem outs_run (l : List (Fin 16)) (hl : l.Nodup) (R : CellTallies nD τ sig Unit) (K : PR F PUnit) (Q : PUnit → sProp 𝕄) :
    iprop(ctx I κ c ∗ bigSep l.toFinset (fun s => iprop(ptA c (rowSet s) (accOf (I c)) ∗ XO c s)) ∗ owing c ((l.map (D1 c)).sum + R)
        ∗ (bigSep l.toFinset (YO I c) ∗ owing c R -∗ WP c K Q))
      ⊢ WP c (seqs (l.map (outBlk AM (Memref.isWhole_whole _) BM (Memref.isWhole_whole _) cc0_scratch2 cc0_scratch3 c)) K) Q := by
  refine via ?_ (seqs_run c _ (ctx I κ c) (fun s => iprop(ptA c (rowSet s) (accOf (I c)) ∗ XO c s)) (YO I c)
    (fun l => owing c ((l.map (D1 c)).sum + R)) K Q l hl (fun s _ l Kt => ?_))
  · rw [List.map_nil, List.sum_nil, zero_add]
  · rw [List.map_cons, List.sum_cons, add_assoc]
    exact out_run I κ c s _ Kt

theorem rsWaits_run (K : PR F PUnit) (Q : PUnit → sProp 𝕄) :
    iprop(ctx I κ c ∗ bigSep Finset.univ (XR c) ∗ owing c (O₁ c) ∗ (bigSep Finset.univ (YR I c) ∗ owing c (O₁ c) -∗ WP c K Q))
      ⊢ WP c (seqs (all16.map (rsWaitBlk AM (Memref.isWhole_whole _) BM (Memref.isWhole_whole _) cc0_scratch3 c)) K) Q := by
  rw [← all16_set]
  exact seqs_run c _ (ctx I κ c) (XR c) (YR I c) (fun _ => owing c (O₁ c)) K Q all16 (by decide) (fun s _ _ Kt => rsWait_run I κ c s Kt)

theorem agSends_run (K : PR F PUnit) (Q : PUnit → sProp 𝕄) :
    iprop(ctx I κ c ∗ bigSep Finset.univ (XG I c) ∗ owing c (O₁ c) ∗ (bigSep Finset.univ (YG I c) ∗ owing c 0 -∗ WP c K Q))
      ⊢ WP c (seqs (all16.map (agSendBlk OM (Memref.isWhole_whole _) cc0_scratch4 cc0_scratch5 c)) K) Q := by
  rw [← all16_set]
  refine seqs_run c _ (ctx I κ c) (XG I c) (YG I c) (fun l => owing c (l.map (D3 c)).sum) K Q all16 (by decide) (fun s _ l Kt => ?_)
  rw [List.map_cons, List.sum_cons]
  exact agSend_run I κ c s _ Kt

theorem agWaits_run (K : PR F PUnit) (Q : PUnit → sProp 𝕄) :
    iprop(ctx I κ c ∗ bigSep Finset.univ (XS3 c) ∗ owing c 0 ∗ (bigSep Finset.univ (YS3 I c) ∗ owing c 0 -∗ WP c K Q))
      ⊢ WP c (seqs (all16.map (agWaitBlk OM (Memref.isWhole_whole _) cc0_scratch5 c)) K) Q := by
  rw [← all16_set]
  exact seqs_run c _ (ctx I κ c) (XS3 c) (YS3 I c) (fun _ => owing c 0) K Q all16 (by decide) (fun s _ _ Kt => agWait_run I κ c s Kt)

theorem drains_run (K : PR F PUnit) (Q : PUnit → sProp 𝕄) :
    iprop(ctx I κ c ∗ bigSep Finset.univ (XD c) ∗ owing c 0 ∗ (bigSep Finset.univ (YD I c) ∗ owing c 0 -∗ WP c K Q))
      ⊢ WP c (seqs (all16.map (drainBlk OM (Memref.isWhole_whole _) AM (Memref.isWhole_whole _) BM (Memref.isWhole_whole _) cc0_scratch2 cc0_scratch4 c)) K) Q := by
  rw [← all16_set]
  exact seqs_run c _ (ctx I κ c) (XD c) (YD I c) (fun _ => owing c 0) K Q all16 (by decide) (fun s _ _ Kt => drain_run I κ c s Kt)

/-- The wait for all arrivals. -/
theorem bar_run {α : Type} (K : PUnit → PR F α) (Q : α → sProp 𝕄) :
    iprop(ctx I κ c ∗ atPos ER (barCell c) 0 ∅ 0 ∗ cred (tallyAt (barCell c) () 15) ∗ owing c (O₃ c))
      ⊢ iprop((atPos ER (barCell c) 1 ∅ 0 ∗ bigSep (Finset.univ.erase c) (fun d => barPay c d) ∗ owing c (O₃ c) -∗ WP c (K ⟨⟩) Q)
        -∗ WP c (semWaitWord barS 15#32 >>= K) Q) := by
  have hm : ctx I κ c ⊢ MayWait ((c : Dev nD) : Thread nD τ) (.reg barS) () (O₃ c) :=
    BI.Entails.trans (ctx_lev I κ c) (mayWait c (.reg barS) (O₃ c) (above_O₃ c))
  iintro ⟨#Hc, Hat, Hcr, ⟨%W, Hw⟩⟩ Hk
  iapply (Rounds.wp_wait_rest_token 𝒱₀ ER (Rd I) ((c : Dev nD) : Thread nD τ) none (κ := κ (barCell c))
      (wpE_semWait_eq 𝒱₀ ((c : Dev nD) : Thread nD τ) none Set.univ) (Set.mem_univ _) () (O := O₃ c) (W := W) (R := 0) (m := 0) (T := ∅)
      ((Nat.zero_add 15).trans (expect_bar I c).symm)) $$ [Hat Hcr Hw]
  · isplitr; · iapply (ctx_bar I κ c c); iexact Hc
    isplitl [Hcr]; · iexact Hcr
    isplitl [Hw]; · iexact Hw
    isplitr; · iapply hm; iexact Hc
    iexact Hat
  rw [rest_bar]
  iintro ⟨Hw, Hat, -, Hpay⟩
  iapply Hk
  isplitl [Hat]; · iexact Hat
  isplitl [Hpay]; · iexact Hpay
  iexists _; iexact Hw

end Cert.KernelIdeal
end
-- ==== Proof.Body.lean ====
module
public import proofs.«01_k».proof.Proof.Phases
/-!
The body, run under the protocol.
-/
@[expose] public section
noncomputable section
namespace Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (I : Dev nD → Ins F) (κ : GSem nD τ sig → ℕ) (c : Fin 16)

/-- Everyone but `c`. -/
abbrev others (Φ : Fin 16 → sProp 𝕄) : sProp 𝕄 := bigSep (Finset.univ.erase c) Φ
abbrev all (Φ : Fin 16 → sProp 𝕄) : sProp 𝕄 := bigSep Finset.univ Φ

theorem fam_join {s : Finset (Fin 16)} (Φ Ψ : Fin 16 → sProp 𝕄) : iprop(bigSep s Φ ∗ bigSep s Ψ) ⊢ bigSep s fun i => iprop(Φ i ∗ Ψ i) :=
  Entails.of_eq (fam_sep s Φ Ψ).symm
theorem fam_part {s : Finset (Fin 16)} (Φ Ψ : Fin 16 → sProp 𝕄) : (bigSep s fun i => iprop(Φ i ∗ Ψ i)) ⊢ iprop(bigSep s Φ ∗ bigSep s Ψ) :=
  Entails.of_eq (fam_sep s Φ Ψ)

/-! ## Whole arrays and their chunks -/

theorem whole_O (q : PosShare TreeShare) (f : Vec F S256x512 .bf16) : ptO c Finset.univ q f = all fun s => ptO c (rowSet s) q f := by
  rw [rowSet_cover]; exact pointsTo_biUnion _ _ fun s _ s' _ h => rowSet_disj s s' h
theorem whole_A (f : Vec F S256x512 .bf16) : ptA c Finset.univ f = all fun s => ptA c (rowSet s) f := by
  rw [rowSet_cover]; exact pointsTo_biUnion _ _ fun s _ s' _ h => rowSet_disj s s' h
theorem whole_B (f : Vec F S16x16x512 .bf16) : ptB c Finset.univ f = all fun s => ptB c (slotSet s) f := by
  rw [slotSet_cover]; exact pointsTo_biUnion _ _ fun s _ s' _ h => slotSet_disj s s' h
theorem lo_A (f : Vec F S256x512 .bf16) : ptA c loSet f = bigSep low8.toFinset fun s => ptA c (rowSet s) f := by
  rw [loSet_cover]; exact pointsTo_biUnion _ _ fun s _ s' _ h => rowSet_disj s s' h
theorem hi_A (f : Vec F S256x512 .bf16) : ptA c hiSet f = bigSep high8.toFinset fun s => ptA c (rowSet s) f := by
  rw [hiSet_cover]; exact pointsTo_biUnion _ _ fun s _ s' _ h => rowSet_disj s s' h

/-! ## What a phase takes and gives, over all peers -/

theorem XO_all : all (fun s => XO (F := F) c s) = iprop((∃ f, ptB c (slotSet c) f)
    ∗ others c (fun s => iprop((dutyTok ER (cell 0 c s) 0 0 ∗ dutyTok ER (cell 1 s c) 0 0) ∗ (∃ f, ptB s (slotSet c) f) ∗ reached ER (cell 1 s c) 0))) :=
  fam_if c (fun _ => iprop(∃ f, ptB c (slotSet c) f)) _
theorem YO_all : all (YO I c) = iprop((ptA c (rowSet c) (accOf (I c)) ∗ ptB c (slotSet c) (rsOf I c)) ∗ others c fun s => cred (tallyAt (cell 0 c s) () N)) :=
  fam_if c (fun _ => iprop(ptA c (rowSet c) (accOf (I c)) ∗ ptB c (slotSet c) (rsOf I c))) _
theorem YR_all : all (YR I c) = iprop((all fun s => atPos ER (cell 1 c s) (fin c s) ∅ 0) ∗ emp ∗ others c fun s => ptB c (slotSet s) (rsOf I c)) :=
  (fam_sep _ _ _).trans (congrArg (fun P => iprop((all fun s => atPos ER (cell 1 c s) (fin c s) ∅ 0) ∗ P)) (fam_if c (fun _ => iprop(emp)) _))
theorem XG_all : all (XG I c) = iprop((all fun s => ptO c (rowSet c) (Transfers.shareTok fullShare 16 s) (outOf I)) ∗ emp ∗ others c fun s =>
    iprop((dutyTok ER (cell 2 c s) 0 0 ∗ dutyTok ER (cell 3 s c) 0 0) ∗ (∃ f, ptO s (rowSet c) fullShare f) ∗ reached ER (cell 3 s c) 0)) :=
  (fam_sep _ _ _).trans (congrArg (fun P => iprop((all fun s => ptO c (rowSet c) (Transfers.shareTok fullShare 16 s) (outOf I)) ∗ P)) (fam_if c (fun _ => iprop(emp)) _))
theorem YG_all : all (YG I c) = iprop(ptO c (rowSet c) (Transfers.shareTok fullShare 16 c) (outOf I) ∗ others c fun s => cred (tallyAt (cell 2 c s) () N)) :=
  fam_if c (fun s => ptO c (rowSet c) (Transfers.shareTok fullShare 16 s) (outOf I)) _
theorem YS3_all : all (YS3 I c) = iprop((all fun s => atPos ER (cell 3 c s) (fin c s) ∅ 0) ∗ emp ∗ others c fun s => ptO c (rowSet s) fullShare (outOf I)) :=
  (fam_sep _ _ _).trans (congrArg (fun P => iprop((all fun s => atPos ER (cell 3 c s) (fin c s) ∅ 0) ∗ P)) (fam_if c (fun _ => iprop(emp)) _))
theorem XD_all : all (fun s => XD (F := F) c s) = iprop((all fun s => iprop(atPos ER (cell 0 c s) 0 ∅ 0 ∗ atPos ER (cell 2 c s) 0 ∅ 0)) ∗ emp
    ∗ others c fun s => iprop(cred (tallyAt (cell 0 c s) () N) ∗ cred (tallyAt (cell 2 c s) () N))) :=
  (fam_sep _ _ _).trans (congrArg (fun P => iprop((all fun s => iprop(atPos ER (cell 0 c s) 0 ∅ 0 ∗ atPos ER (cell 2 c s) 0 ∅ 0)) ∗ P)) (fam_if c (fun _ => iprop(emp)) _))
theorem YD_all : all (YD I c) = iprop((all fun s => iprop(atPos ER (cell 0 c s) (fin c s) ∅ 0 ∗ atPos ER (cell 2 c s) (fin c s) ∅ 0)) ∗ emp
    ∗ others c fun s => iprop(ptA c (rowSet s) (accOf (I c)) ∗ ptO c (rowSet c) (Transfers.shareTok fullShare 16 s) (outOf I))) :=
  (fam_sep _ _ _).trans (congrArg (fun P => iprop((all fun s => iprop(atPos ER (cell 0 c s) (fin c s) ∅ 0 ∗ atPos ER (cell 2 c s) (fin c s) ∅ 0)) ∗ P)) (fam_if c (fun _ => iprop(emp)) _))

/-! ## The last phases: the sums go round, the own copies drain -/

abbrev agTail : PR F PUnit :=
  seqs (all16.map (agSendBlk OM (Memref.isWhole_whole _) cc0_scratch4 cc0_scratch5 c)) <|
  seqs (all16.map (agWaitBlk OM (Memref.isWhole_whole _) cc0_scratch5 c)) <|
  seqs (all16.map (drainBlk OM (Memref.isWhole_whole _) AM (Memref.isWhole_whole _) BM (Memref.isWhole_whole _) cc0_scratch2 cc0_scratch4 c)) <|
  pure ⟨⟩

theorem agTail_run (Q : PUnit → sProp 𝕄) :
    iprop(ctx I κ c ∗ ptO c (rowSet c) fullShare (outOf I)
        ∗ (all fun s => iprop(dutyTok ER (cell 2 c s) 0 0 ∗ dutyTok ER (cell 3 s c) 0 0))
        ∗ (others c fun s => iprop((∃ f, ptO s (rowSet c) fullShare f) ∗ reached ER (cell 3 s c) 0))
        ∗ all (XS3 c) ∗ (all fun s => iprop(atPos ER (cell 0 c s) 0 ∅ 0 ∗ atPos ER (cell 2 c s) 0 ∅ 0))
        ∗ (others c fun s => cred (tallyAt (cell 0 c s) () N)) ∗ ptA c (rowSet c) (accOf (I c)) ∗ owing c (O₁ c)
        ∗ ((all fun s => iprop(atPos ER (cell 0 c s) (fin c s) ∅ 0 ∗ atPos ER (cell 2 c s) (fin c s) ∅ 0))
            ∗ (all fun s => atPos ER (cell 3 c s) (fin c s) ∅ 0)
            ∗ ptA c Finset.univ (accOf (I c)) ∗ ptO c Finset.univ fullShare (outOf I) ∗ owing c 0 -∗ Q ⟨⟩))
      ⊢ WP c (agTail c) Q := by
  iintro ⟨#Hc, HP, Ht, Hd, HX3, Hat, Hcr0, HA, HO, Hk⟩
  ihave HP' := (Transfers.pointsTo_toks_split fullShare 16) $$ HP
  icases HP' with ⟨Hdrop, Htok⟩
  ihave Ht' := (Entails.of_eq (fam_split c fun s => iprop(dutyTok ER (cell 2 c s) 0 0 ∗ dutyTok ER (cell 3 s c) 0 0))) $$ Ht
  icases Ht' with ⟨-, Ht⟩
  iapply (agSends_run I κ c)
  isplitr; · iexact Hc
  isplitl [Htok Ht Hd]
  · rw [show bigSep Finset.univ (XG I c) = _ from XG_all I c]
    isplitl [Htok]; · iexact Htok
    isplitr; · iempintro
    iapply (fam_join _ _)
    isplitl [Ht]; · iexact Ht
    iexact Hd
  isplitl [HO]; · iexact HO
  rw [show bigSep Finset.univ (YG I c) = _ from YG_all I c]
  iintro ⟨⟨Htc, Hcr2⟩, HO⟩
  iapply (agWaits_run I κ c)
  isplitr; · iexact Hc
  isplitl [HX3]; · iexact HX3
  isplitl [HO]; · iexact HO
  rw [show bigSep Finset.univ (YS3 I c) = _ from YS3_all I c]
  iintro ⟨⟨Hat3, -, HPs⟩, HO⟩
  iapply (drains_run I κ c)
  isplitr; · iexact Hc
  isplitl [Hat Hcr0 Hcr2]
  · rw [show bigSep Finset.univ (XD c) = _ from XD_all c]
    isplitl [Hat]; · iexact Hat
    isplitr; · iempintro
    iapply (fam_join _ _)
    isplitl [Hcr0]; · iexact Hcr0
    iexact Hcr2
  isplitl [HO]; · iexact HO
  rw [show bigSep Finset.univ (YD I c) = _ from YD_all I c]
  iintro ⟨⟨Hat, -, HAt⟩, HO⟩
  ihave HAt' := (fam_part _ _) $$ HAt
  icases HAt' with ⟨HAs, Htoks⟩
  iapply WP_pure
  iapply Hk
  isplitl [Hat]; · iexact Hat
  isplitl [Hat3]; · iexact Hat3
  isplitl [HA HAs]
  · rw [whole_A, all, fam_split c]
    isplitl [HA]; · iexact HA
    iexact HAs
  isplitl [Hdrop Htc Htoks HPs]
  · rw [whole_O, all, fam_split c]
    isplitr [HPs]
    · iapply (Transfers.pointsTo_toks_join fullShare 16)
      isplitl [Hdrop]; · iexact Hdrop
      iapply (Entails.of_eq (fam_split c fun s => ptO c (rowSet c) (Transfers.shareTok fullShare 16 s) (outOf I)).symm)
      isplitl [Htc]; · iexact Htc
      iexact Htoks
    iexact HPs
  iexact HO

/-! ## What the phases before need -/

theorem XS_others (f : Vec F S16x16x512 .bf16) (g : Vec F S256x512 .bf16) :
    iprop((others c fun d => dutyTok ER (barCell d) 0 c) ∗ (others c fun d => ptB c (slotSet d) f) ∗ others c fun d => ptO c (rowSet d) fullShare g)
      ⊢ others c (XS c) := by
  refine via ?_ (fam_mono (Φ := fun d => iprop(dutyTok ER (barCell d) 0 c ∗ ptB c (slotSet d) f ∗ ptO c (rowSet d) fullShare g)) fun d _ => ?_)
  · iintro ⟨Ht, HB, HO⟩
    iapply (fam_join _ _)
    isplitl [Ht]; · iexact Ht
    iapply (fam_join _ _)
    isplitl [HB]; · iexact HB
    iexact HO
  · iintro ⟨Ht, HB, HO⟩
    isplitl [Ht]; · iexact Ht
    isplitl [HB]
    · iexists f; iexact HB
    · iexists g; iexact HO

theorem barPay_others :
    (others c fun d => barPay (F := F) c d)
      ⊢ iprop((others c fun d => iprop((∃ f, ptB d (slotSet c) f) ∗ reached ER (cell 1 d c) 0))
        ∗ others c fun d => iprop((∃ f, ptO d (rowSet c) fullShare f) ∗ reached ER (cell 3 d c) 0)) := by
  refine via (fam_mono (Ψ := fun d => iprop(iprop((∃ f, ptB d (slotSet c) f) ∗ reached ER (cell 1 d c) 0)
    ∗ iprop((∃ f, ptO d (rowSet c) fullShare f) ∗ reached ER (cell 3 d c) 0))) fun d _ => ?_) (fam_part _ _)
  unfold barPay
  iintro ⟨HB, HO, H1, H3⟩
  isplitl [HB H1]
  · isplitl [HB]; · iexact HB
    iexact H1
  · isplitl [HO]; · iexact HO
    iexact H3

theorem top_stored (f : Vec F S256x512 .bf16) :
    ptA c loSet ((AM.access loRect).write (Elt F) f (topPay (rdX (I c)) (rdWq (I c)) (rdK0 (I c)) (rdV0 (I c)) (rdWo (I c))) Finset.univ)
      ⊢ bigSep low8.toFinset fun s => ptA c (rowSet s) (accOf (I c)) := by
  rw [← lo_A]; exact Entails.of_eq (pointsTo_congr fun j hj => stored_top (I c) f j hj)
theorem bot_stored (f : Vec F S256x512 .bf16) :
    ptA c hiSet ((AM.access hiRect).write (Elt F) f (botPay (rdX (I c)) (rdWq (I c)) (rdK1 (I c)) (rdV1 (I c)) (rdWo (I c))) Finset.univ)
      ⊢ bigSep high8.toFinset fun s => ptA c (rowSet s) (accOf (I c)) := by
  rw [← hi_A]; exact Entails.of_eq (pointsTo_congr fun j hj => stored_bot (I c) f j hj)

theorem read_B (f : Vec F S16x16x512 .bf16) :
    BM.view.readAt (Elt F) (Rect.unit (s := S16x16x512) ![0, 0, 0] S16x16x512.size inb_S16x16x512_S16x16x512_0_0_0).toLoadRect f = f :=
  Memref.readAt_unit_zero (Elt F) cc0_scratch1 (by decide) _ f

theorem sum_stored (f : Vec F S256x512 .bf16) :
    ptO c (rowSet c) fullShare ((OM.access (rowRect c)).write (Elt F) f
        (k0_pay71 (BM.view.readAt (Elt F) (Rect.unit (s := S16x16x512) ![0, 0, 0] S16x16x512.size inb_S16x16x512_S16x16x512_0_0_0).toLoadRect (rsOf I c))) Finset.univ)
      ⊢ ptO c (rowSet c) fullShare (outOf I) := by
  rw [read_B]; exact Entails.of_eq (pointsTo_congr fun j hj => stored_sum I c f j hj)

end Cert.KernelIdeal
end
-- ==== Proof.Run.lean ====
module
public import proofs.«01_k».proof.Proof.Body
/-!
The whole body, from the resources a device is launched with to the result and the cells' counters at rest.
-/
@[expose] public section
noncomputable section
namespace Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (I : Dev nD → Ins F) (κ : GSem nD τ sig → ℕ) (c : Fin 16)

/-- The staged inputs. -/
def ins : sProp 𝕄 :=
  iprop((((c : Dev nD) : Thread nD τ).loc cc0_stg0_0 ↦{fullShare} (I c).x) ∗ (((c : Dev nD) : Thread nD τ).loc cc0_stg1_0 ↦{fullShare} (I c).wq)
    ∗ (((c : Dev nD) : Thread nD τ).loc cc0_stg2_0 ↦{fullShare} (I c).k) ∗ (((c : Dev nD) : Thread nD τ).loc cc0_stg3_0 ↦{fullShare} (I c).v)
    ∗ (((c : Dev nD) : Thread nD τ).loc cc0_stg4_0 ↦{fullShare} (I c).wo))

/-- What a device owns of the protocol before its body: its positions, the others' arrivals, chunks and sums it may raise, and what
    it may wait for. -/
def before : sProp 𝕄 :=
  iprop(atPos ER (barCell c) 0 ∅ 0 ∗ cred (tallyAt (barCell c) () 15) ∗ (all fun d => dutyTok ER (barCell d) 0 c)
    ∗ (all fun s => iprop(dutyTok ER (cell 0 c s) 0 0 ∗ dutyTok ER (cell 1 s c) 0 0))
    ∗ (all fun s => iprop(dutyTok ER (cell 2 c s) 0 0 ∗ dutyTok ER (cell 3 s c) 0 0))
    ∗ (all fun s => iprop(atPos ER (cell 0 c s) 0 ∅ 0 ∗ atPos ER (cell 2 c s) 0 ∅ 0))
    ∗ all (XR c) ∗ all (XS3 c))

/-- Its positions after. -/
def after : sProp 𝕄 :=
  iprop(atPos ER (barCell c) 1 ∅ 0
    ∗ (all fun s => iprop(atPos ER (cell 0 c s) (fin c s) ∅ 0 ∗ atPos ER (cell 2 c s) (fin c s) ∅ 0))
    ∗ (all fun s => atPos ER (cell 1 c s) (fin c s) ∅ 0) ∗ (all fun s => atPos ER (cell 3 c s) (fin c s) ∅ 0))

abbrev theBody : PR F PUnit :=
  bodyOf (Memref.whole cc0_stg0_0) (Memref.whole cc0_stg1_0) (Memref.whole cc0_stg2_0) (Memref.whole cc0_stg3_0) (Memref.whole cc0_stg4_0)
    OM (Memref.isWhole_whole _) AM (Memref.isWhole_whole _) BM (Memref.isWhole_whole _) cc0_scratch2 cc0_scratch3 cc0_scratch4 cc0_scratch5 c

theorem body_run (Q : PUnit → sProp 𝕄) :
    iprop(ctx I κ c ∗ before c ∗ owing c (O₀ c) ∗ ins I c ∗ (∃ f, ptA c Finset.univ f) ∗ (∃ f, ptB c Finset.univ f) ∗ (∃ f, ptO c Finset.univ fullShare f)
        ∗ (after c ∗ owing c 0 ∗ ins I c ∗ ptA c Finset.univ (accOf (I c)) ∗ ptB c Finset.univ (rsOf I c) ∗ ptO c Finset.univ fullShare (outOf I) -∗ Q ⟨⟩))
      ⊢ WP c (theBody c) Q := by
  unfold before ins after theBody bodyOf
  iintro ⟨#Hc, ⟨Hatb, Hcrb, Htb, Ht01, Ht23, Hat02, HXR, HX3⟩, HO, ⟨H0, H1, H2, H3, H4⟩, ⟨%fA, HA⟩, ⟨%fB, HB⟩, ⟨%fO, HP⟩, Hk⟩
  -- every peer's landing places go out with the arrival
  ihave HB' := (Entails.of_eq ((whole_B c fB).trans (fam_split c _))) $$ HB
  icases HB' with ⟨HBc, HB⟩
  ihave HP' := (Entails.of_eq ((whole_O c fullShare fO).trans (fam_split c _))) $$ HP
  icases HP' with ⟨HPc, HP⟩
  ihave Htb' := (Entails.of_eq (fam_split c fun d => dutyTok ER (barCell d) 0 c)) $$ Htb
  icases Htb' with ⟨-, Htb⟩
  iapply (sigs_run I κ c)
  isplitr; · iexact Hc
  isplitl [Htb HB HP]
  · iapply (XS_others c fB fO)
    isplitl [Htb]; · iexact Htb
    isplitl [HB]; · iexact HB
    iexact HP
  isplitl [HO]; · iexact HO
  iintro HO
  -- the arrivals hand over the places of the own chunk and the own sum on every peer
  iapply (bar_run I κ c) $$ [Hatb Hcrb HO]
  · isplitr; · iexact Hc
    isplitl [Hatb]; · iexact Hatb
    isplitl [Hcrb]; · iexact Hcrb
    iexact HO
  iintro ⟨Hatb, Hpay, HO⟩
  ihave Hpay' := (barPay_others c) $$ Hpay
  icases Hpay' with ⟨Hd1, Hd3⟩
  -- the partial product's upper rows
  iapply (wp_load 𝒱₀ ((c : Dev nD) : Thread nD τ) none Set.univ (m := Memref.whole cc0_stg0_0) (S := Finset.univ) (Finset.subset_univ _)) $$ [H0]
  · iexact H0
  iintro H0
  iapply (wp_load 𝒱₀ ((c : Dev nD) : Thread nD τ) none Set.univ (m := Memref.whole cc0_stg1_0) (S := Finset.univ) (Finset.subset_univ _)) $$ [H1]
  · iexact H1
  iintro H1
  iapply (wp_load 𝒱₀ ((c : Dev nD) : Thread nD τ) none Set.univ (m := Memref.whole cc0_stg2_0) (S := Finset.univ) (Finset.subset_univ _)) $$ [H2]
  · iexact H2
  iintro H2
  iapply (wp_load 𝒱₀ ((c : Dev nD) : Thread nD τ) none Set.univ (m := Memref.whole cc0_stg3_0) (S := Finset.univ) (Finset.subset_univ _)) $$ [H3]
  · iexact H3
  iintro H3
  iapply (wp_load 𝒱₀ ((c : Dev nD) : Thread nD τ) none Set.univ (m := Memref.whole cc0_stg4_0) (S := Finset.univ) (Finset.subset_univ _)) $$ [H4]
  · iexact H4
  iintro H4
  ihave HA' := (pointsTo_split_subset (I := loSet) (Finset.subset_univ _)).1 $$ HA
  rw [hiSet_rest]
  icases HA' with ⟨HAl, HAh⟩
  iapply (wp_load 𝒱₀ ((c : Dev nD) : Thread nD τ) none Set.univ (m := AM) (r := loRect.toLoadRect) (S := loSet) (load_sub _)) $$ [HAl]
  · iexact HAl
  iintro HAl
  iapply (wp_store 𝒱₀ ((c : Dev nD) : Thread nD τ) none Set.univ (m := AM) (r := loRect) (S := loSet) (store_sub _)) $$ [HAl]
  · iexact HAl
  iintro HAl
  ihave HAl := (top_stored I c fA) $$ HAl
  -- the upper chunks go out
  ihave HX := (fam_join _ _) $$ [Ht01 Hd1]
  · isplitl [Ht01]
    · ihave Ht' := (Entails.of_eq (fam_split c fun s => iprop(dutyTok ER (cell 0 c s) 0 0 ∗ dutyTok ER (cell 1 s c) 0 0))) $$ Ht01
      icases Ht' with ⟨-, Ht⟩
      iexact Ht
    iexact Hd1
  ihave HX' := (Entails.of_eq ((XO_all c).symm.trans (fam_halves _))) $$ [HBc HX]
  · isplitl [HBc]
    · iexists fB; iexact HBc
    iexact HX
  icases HX' with ⟨HXl, HXh⟩
  iapply (outs_run I κ c low8 (by decide) (O₂ c))
  isplitr; · iexact Hc
  isplitl [HAl HXl]
  · iapply (fam_join _ _)
    isplitl [HAl]; · iexact HAl
    iexact HXl
  isplitl [HO]; · iexact HO
  iintro ⟨HYl, HO⟩
  -- the lower rows
  iapply (wp_load 𝒱₀ ((c : Dev nD) : Thread nD τ) none Set.univ (m := Memref.whole cc0_stg2_0) (S := Finset.univ) (Finset.subset_univ _)) $$ [H2]
  · iexact H2
  iintro H2
  iapply (wp_load 𝒱₀ ((c : Dev nD) : Thread nD τ) none Set.univ (m := Memref.whole cc0_stg3_0) (S := Finset.univ) (Finset.subset_univ _)) $$ [H3]
  · iexact H3
  iintro H3
  iapply (wp_load 𝒱₀ ((c : Dev nD) : Thread nD τ) none Set.univ (m := Memref.whole cc0_stg4_0) (S := Finset.univ) (Finset.subset_univ _)) $$ [H4]
  · iexact H4
  iintro H4
  iapply (wp_load 𝒱₀ ((c : Dev nD) : Thread nD τ) none Set.univ (m := AM) (r := hiRect.toLoadRect) (S := hiSet) (load_sub _)) $$ [HAh]
  · iexact HAh
  iintro HAh
  iapply (wp_store 𝒱₀ ((c : Dev nD) : Thread nD τ) none Set.univ (m := AM) (r := hiRect) (S := hiSet) (store_sub _)) $$ [HAh]
  · iexact HAh
  iintro HAh
  ihave HAh := (bot_stored I c fA) $$ HAh
  iapply (outs_run I κ c high8 (by decide) (O₁ c))
  isplitr; · iexact Hc
  isplitl [HAh HXh]
  · iapply (fam_join _ _)
    isplitl [HAh]; · iexact HAh
    iexact HXh
  isplitl [HO]; · iexact HO
  iintro ⟨HYh, HO⟩
  ihave HY := (Entails.of_eq ((fam_halves _).symm.trans (YO_all I c))) $$ [HYl HYh]
  · isplitl [HYl]; · iexact HYl
    iexact HYh
  icases HY with ⟨⟨HAc, HBc⟩, Hcr0⟩
  -- the peers' chunks arrive
  iapply (rsWaits_run I κ c)
  isplitr; · iexact Hc
  isplitl [HXR]; · iexact HXR
  isplitl [HO]; · iexact HO
  rw [show bigSep Finset.univ (YR I c) = _ from YR_all I c]
  iintro ⟨⟨Hat1, -, HBs⟩, HO⟩
  ihave HB := (Entails.of_eq ((whole_B c (rsOf I c)).trans (fam_split c _)).symm) $$ [HBc HBs]
  · isplitl [HBc]; · iexact HBc
    iexact HBs
  -- their sum
  iapply (wp_load 𝒱₀ ((c : Dev nD) : Thread nD τ) none Set.univ (m := BM) (S := Finset.univ) (Finset.subset_univ _)) $$ [HB]
  · iexact HB
  iintro HB
  iapply (wp_load 𝒱₀ ((c : Dev nD) : Thread nD τ) none Set.univ (m := OM) (r := (rowRect c).toLoadRect) (S := rowSet c) (load_sub _)) $$ [HPc]
  · iexact HPc
  iintro HPc
  iapply (wp_store 𝒱₀ ((c : Dev nD) : Thread nD τ) none Set.univ (m := OM) (r := rowRect c) (S := rowSet c) (store_sub _)) $$ [HPc]
  · iexact HPc
  iintro HPc
  ihave HPc := (sum_stored I c fO) $$ HPc
  iapply (agTail_run I κ c)
  isplitr; · iexact Hc
  isplitl [HPc]; · iexact HPc
  isplitl [Ht23]; · iexact Ht23
  isplitl [Hd3]; · iexact Hd3
  isplitl [HX3]; · iexact HX3
  isplitl [Hat02]; · iexact Hat02
  isplitl [Hcr0]; · iexact Hcr0
  isplitl [HAc]; · iexact HAc
  isplitl [HO]; · iexact HO
  iintro ⟨Hat02, Hat3, HA, HP, HO⟩
  iapply Hk
  isplitl [Hatb Hat02 Hat1 Hat3]
  · isplitl [Hatb]; · iexact Hatb
    isplitl [Hat02]; · iexact Hat02
    isplitl [Hat1]; · iexact Hat1
    iexact Hat3
  isplitl [HO]; · iexact HO
  isplitl [H0 H1 H2 H3 H4]
  · isplitl [H0]; · iexact H0
    isplitl [H1]; · iexact H1
    isplitl [H2]; · iexact H2
    isplitl [H3]; · iexact H3
    iexact H4
  isplitl [HA]; · iexact HA
  isplitl [HB]; · iexact HB
  iexact HP

end Cert.KernelIdeal
end
-- ==== Proof.Region.lean ====
module
public import proofs.«01_k».proof.Proof.Run
public import proofs.«01_k».proof.Proof.Gen.KernelIdeal.Points
public import proofs.«01_k».proof.Proof.Gen.KernelIdeal.Regions
public import Idealize.ShloMosaic.Lib.Rounds.Family
public import Idealize.ShloMosaic.Lib.Pipeline.RegionTalk
public import Idealize.ShloMosaic.Lib.Pipeline.ValueKit.Geometry
/-!
The kernel call: its staged arrays, what enters and leaves its body, and the counters opened before it and closed at its end.
-/
@[expose] public section
noncomputable section
namespace Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## Contents -/

/-- What the body finds staged on device `c`. -/
def insOf (c : Dev nD) : Ins F := ⟨V1 m c main_arg0, V1 m c main_arg1, V1 m c main_v10, V1 m c main_v15, V1 m c main_arg4⟩
/-- What the call leaves: its result array holds the gathered sums. -/
def outs : Outs (F := F) := fun _ r c => Function.update (V1 m c) (Proc.devRef .tc main_v16) (outOf (insOf m)) (Proc.devRef .tc r)

theorem outs_v16 (c : Dev nD) : outs m 2 main_v16 c = outOf (insOf m) := Function.update_self _ _ _
theorem V2_v16 (c : Dev nD) : V2 m (outs m) c main_v16 = outOf (insOf m) := (Function.update_self _ _ _).trans (outs_v16 m c)

/-! ## The kernel's own counters -/

def osem (x : Fin 4 × Fin 16) : SemLoc sig := .dma (semNo x.1 x.2)
theorem osem_own : Pipeline.OwnSemFacts spec0 osem := by decide

theorem fam4 (Φ : Fin 4 → Fin 16 → sProp 𝕄) :
    bigSep Finset.univ (fun x : Fin 4 × Fin 16 => Φ x.1 x.2) = iprop(all (Φ 0) ∗ all (Φ 1) ∗ all (Φ 2) ∗ all (Φ 3)) := by
  rw [bigSep_univ_prod (fun x : Fin 4 × Fin 16 => Φ x.1 x.2), show (Finset.univ : Finset (Fin 4)) = {0, 1, 2, 3} from by decide,
    bigSep_insert (by decide), bigSep_insert (by decide), bigSep_insert (by decide), bigSep_singleton]
  rfl

section Protocol
variable (I : Dev nD → Ins F) (κ : GSem nD τ sig → ℕ) (c : Fin 16)

/-- What every device may consult from launch on. -/
def known : sProp 𝕄 :=
  iprop((bigSep Finset.univ fun d : Fin 16 => cellInv ER (Rd I) (κ (barCell d)) (barCell d))
    ∗ (bigSep Finset.univ fun x : Fin 16 × Fin 4 × Fin 16 => cellInv ER (Rd I) (κ (cell x.2.1 x.1 x.2.2)) (cell x.2.1 x.1 x.2.2))
    ∗ (bigSep Finset.univ fun d : Fin 16 => reached ER (barCell d) 0))

instance known_persistent : BI.Persistent (known I κ) := by unfold known; infer_instance

/-- What device `c` may wait for on its own cells of array `k`. -/
abbrev CR (k : Fin 4) (s : Fin 16) : sProp 𝕄 := if c = s then iprop(emp) else cred (tallyAt (cell k c s) () N)

/-- What device `c` is dealt at launch. -/
def dealt : sProp 𝕄 :=
  iprop(atPos ER (barCell c) 0 ∅ 0 ∗ cred (tallyAt (barCell c) () 15) ∗ (all fun d => dutyTok ER (barCell d) 0 c)
    ∗ (all fun s => iprop(dutyTok ER (cell 0 c s) 0 0 ∗ dutyTok ER (cell 1 s c) 0 0))
    ∗ (all fun s => iprop(dutyTok ER (cell 2 c s) 0 0 ∗ dutyTok ER (cell 3 s c) 0 0))
    ∗ (all (CR c 1) ∗ all (CR c 3))
    ∗ bigSep Finset.univ fun x : Fin 4 × Fin 16 => openTok ER (cell x.1 c x.2))

theorem known_cell (x : Fin 4 × Fin 16) : known I κ ⊢ cellInv ER (Rd I) (κ (cell x.1 c x.2)) (cell x.1 c x.2) := by
  unfold known
  iintro ⟨-, #H, -⟩
  iapply (fam_at (Finset.mem_univ (c, x.1, x.2))
    (fun x : Fin 16 × Fin 4 × Fin 16 => (cellInv ER (Rd I) (κ (cell x.2.1 x.1 x.2.2)) (cell x.2.1 x.1 x.2.2) : sProp 𝕄))); iexact H

/-- What every device may consult, once its own cells are open. -/
theorem ctx_intro : iprop(known I κ ∗ levs F ∗ bigSep Finset.univ fun x : Fin 4 × Fin 16 => reached ER (cell x.1 c x.2) 0) ⊢ ctx I κ c := by
  unfold ctx known
  iintro ⟨⟨#H1, #H2, #H3⟩, #H5, #H4⟩
  isplitr; · iexact H1
  isplitr; · iexact H2
  isplitr; · iexact H3
  isplitr; · iexact H4
  iexact H5

/-- The families of one device's cells, each given its invariant. -/
theorem with_inv (Φ : Fin 4 × Fin 16 → sProp 𝕄) :
    iprop(known I κ ∗ bigSep Finset.univ Φ)
      ⊢ bigSep Finset.univ fun x : Fin 4 × Fin 16 => iprop(cellInv ER (Rd I) (κ (cell x.1 c x.2)) (cell x.1 c x.2) ∗ Φ x) :=
  bigSep_with_persistent (R := known I κ) (Φ := Φ) fun x _ => by
    iintro ⟨#H, HP⟩
    isplitr; · iapply (known_cell I κ c x); iexact H
    iexact HP

theorem part64 (Φ Ψ : Fin 4 × Fin 16 → sProp 𝕄) :
    (bigSep Finset.univ fun x => iprop(Φ x ∗ Ψ x)) ⊢ iprop(bigSep Finset.univ Φ ∗ bigSep Finset.univ Ψ) :=
  Entails.of_eq (fam_sep _ Φ Ψ)

/-- Opening: the counters of the own cells go in, the positions come out. -/
theorem opening : iprop((known I κ ∗ dealt c) ∗ Pipeline.ownSems0 osem c ∗ levs F) ⊢ (|={Set.univ}=> iprop(ctx I κ c ∗ before c) : sProp 𝕄) := by
  unfold dealt Pipeline.ownSems0 before
  iintro ⟨⟨#Hk, Hat, Hcr, Htb, Ht01, Ht23, ⟨Hc1, Hc3⟩, Hop⟩, Hsem, #Hlev⟩
  ihave Hop' := (with_inv I κ c (fun x => openTok ER (cell x.1 c x.2))) $$ [Hop]
  · isplitr; · iexact Hk
    iexact Hop
  imod (Rounds.cells_open ER (Rd I) (Finset.univ : Finset (Fin 4 × Fin 16)) (fun x => cell x.1 c x.2) (fun x => κ (cell x.1 c x.2))
    (Es := Set.univ) (fun _ _ => Set.mem_univ _)) $$ [Hop' Hsem] with H
  · isplitl [Hop']; · iexact Hop'
    iexact Hsem
  imodintro
  ihave H' := (part64 (fun x => atPos ER (cell x.1 c x.2) 0 ∅ 0) (fun x => reached ER (cell x.1 c x.2) 0)) $$ H
  icases H' with ⟨Ha, #Hr⟩
  isplitr
  · iapply (ctx_intro I κ c)
    isplitr; · iexact Hk
    isplitr; · iexact Hlev
    iexact Hr
  ihave Ha' := (Entails.of_eq (fam4 fun k s => atPos ER (cell k c s) 0 ∅ 0)) $$ Ha
  icases Ha' with ⟨Ha0, Ha1, Ha2, Ha3⟩
  isplitl [Hat]; · iexact Hat
  isplitl [Hcr]; · iexact Hcr
  isplitl [Htb]; · iexact Htb
  isplitl [Ht01]; · iexact Ht01
  isplitl [Ht23]; · iexact Ht23
  isplitl [Ha0 Ha2]
  · iapply (fam_join _ _)
    isplitl [Ha0]; · iexact Ha0
    iexact Ha2
  isplitl [Ha1 Hc1]
  · iapply (fam_join (fun s => atPos ER (cell 1 c s) 0 ∅ 0) (CR c 1))
    isplitl [Ha1]; · iexact Ha1
    iexact Hc1
  iapply (fam_join (fun s => atPos ER (cell 3 c s) 0 ∅ 0) (CR c 3))
  isplitl [Ha3]; · iexact Ha3
  iexact Hc3

theorem ctx_known : ctx I κ c ⊢ known I κ := by
  unfold ctx known
  iintro ⟨#H1, #H2, #H3, -⟩
  isplitr; · iexact H1
  isplitr; · iexact H2
  iexact H3

/-- Closing: every counter back, at zero. -/
theorem closing : iprop(ctx I κ c ∗ after c) ⊢ (|={Set.univ}=> iprop(semVal (barCell c) 0 ∗ Pipeline.ownSems0 osem c) : sProp 𝕄) := by
  unfold after Pipeline.ownSems0
  iintro ⟨#Hc, Hat, H02, H1, H3⟩
  imod (Rounds.cell_close ER (Rd I) (g := barCell c) (κ := κ (barCell c)) (Es := Set.univ) (Set.mem_univ _) (fun h => h) (R := 1) (duties_later I _)) $$ [Hat] with Hb
  · isplitr; · iapply (ctx_bar I κ c c); iexact Hc
    iexact Hat
  ihave H02' := (fam_part _ _) $$ H02
  icases H02' with ⟨H0, H2⟩
  ihave Ha := (Entails.of_eq (fam4 fun k s => atPos ER (cell k c s) (fin c s) ∅ 0).symm) $$ [H0 H1 H2 H3]
  · isplitl [H0]; · iexact H0
    isplitl [H1]; · iexact H1
    isplitl [H2]; · iexact H2
    iexact H3
  ihave Ha' := (with_inv I κ c (fun x => atPos ER (cell x.1 c x.2) (fin c x.2) ∅ 0)) $$ [Ha]
  · isplitr; · iapply (ctx_known I κ c); iexact Hc
    iexact Ha
  imod (Rounds.cells_close ER (Rd I) (Finset.univ : Finset (Fin 4 × Fin 16)) (fun x => cell x.1 c x.2) (fun x => κ (cell x.1 c x.2))
    (Es := Set.univ) (fun _ _ => Set.mem_univ _) (fun _ _ h => h) (fun x => fin c x.2) (fun x _ => duties_fin I x.1 c x.2)) $$ Ha' with H
  imodintro
  isplitl [Hb]; · iexact Hb
  iexact H

end Protocol

/-! ## The call's proof data -/

/-- The scratch buffers, at contents not chosen. -/
def scr (c : Dev nD) : sProp 𝕄 := iprop((∃ f, ptA c Finset.univ f) ∗ ∃ f, ptB c Finset.univ f)
def Tk (c : Dev nD) : sProp 𝕄 := iprop(∃ κ, known (insOf m) κ ∗ dealt c)
def Xk (c : Dev nD) : sProp 𝕄 := iprop(∃ κ, ctx (insOf m) κ c ∗ before c)
def Yk (c : Dev nD) : sProp 𝕄 := semVal (barCell c) 0

def dat (c : Dev nD) : Dat τ (Elt F) Unit ℕ UU ℕ cfg0 c where
  A w := V1 m c (Proc.devRef .tc (Pipeline.arrRef spec0 w))
  after w _ := match w with
    | 0 => (insOf m c).x
    | 1 => (insOf m c).wq
    | 2 => (insOf m c).k
    | 3 => (insOf m c).v
    | 4 => (insOf m c).wo
    | 5 => outOf (insOf m)
  Φ t := if t.val = 0 then iprop(Xk m c ∗ scr c ∗ ∃ r, prngReg c r)
    else iprop(Yk c ∗ Pipeline.ownSems0 osem c ∗ scr c ∗ ∃ r, prngReg c r)
  q _ := fullShare
  owed t := if t.val = 0 then O₀ c else 0

def pdats : (p : Fin 1) → (c : Dev nD) → Dat τ (Elt F) Unit ℕ UU ℕ (cfgs p) c
  | 0 => dat m

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (dat m c).owed 0 = O₀ c := by
  show (if (0 : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h : (dat m c).owed t = O) :
    owing c O ⊢ ((dat m c).owesAt () t : sProp 𝕄) := by
  unfold Dat.owesAt Pipeline.owesWithin Dat.bound; rw [h]
  iintro ⟨%W, HO⟩; iexists W
  isplitr; · ipureintro; exact fun _ _ => Or.inl trivial
  iexact HO
theorem owes_out (c : Dev nD) (t : Fin (cfg0.N + 1)) (O : CellTallies nD τ sig Unit) (h : (dat m c).owed t = O) :
    ((dat m c).owesAt () t : sProp 𝕄) ⊢ owing c O := by
  unfold Dat.owesAt Pipeline.owesWithin; rw [h]
  iintro ⟨%W, -, HO⟩; iexists W; iexact HO

section Found
variable (c : Dev nD) (t : Fin cfg0.N)
theorem before_0 (d) : (dat m c).before 0 t d = (insOf m c).x := by
  rw [Dat.before_fetched _ 0 t (fetch0_0 t)]
  unfold Dat.fetched Dat.blockOf
  funext j
  show V1 m c main_arg0 _ = V1 m c main_arg0 _
  blk_ext [show ∀ a, win0_0.index t a = 0 from fun _ => rfl]
theorem before_1 (d) : (dat m c).before 1 t d = (insOf m c).wq := by
  rw [Dat.before_fetched _ 1 t (fetch0_1 t)]
  unfold Dat.fetched Dat.blockOf
  funext j
  show V1 m c main_arg1 _ = V1 m c main_arg1 _
  blk_ext [show ∀ a, win0_1.index t a = 0 from fun _ => rfl]
theorem before_2 (d) : (dat m c).before 2 t d = (insOf m c).k := by
  rw [Dat.before_fetched _ 2 t (fetch0_2 t)]
  unfold Dat.fetched Dat.blockOf
  funext j
  show V1 m c main_v10 _ = V1 m c main_v10 _
  blk_ext [show ∀ a, win0_2.index t a = 0 from fun _ => rfl]
theorem before_3 (d) : (dat m c).before 3 t d = (insOf m c).v := by
  rw [Dat.before_fetched _ 3 t (fetch0_3 t)]
  unfold Dat.fetched Dat.blockOf
  funext j
  show V1 m c main_v15 _ = V1 m c main_v15 _
  blk_ext [show ∀ a, win0_3.index t a = 0 from fun _ => rfl]
theorem before_4 (d) : (dat m c).before 4 t d = (insOf m c).wo := by
  rw [Dat.before_fetched _ 4 t (fetch0_4 t)]
  unfold Dat.fetched Dat.blockOf
  funext j
  show V1 m c main_arg4 _ = V1 m c main_arg4 _
  blk_ext [show ∀ a, win0_4.index t a = 0 from fun _ => rfl]
end Found

theorem arr_end (c : Dev nD) : (dat m c).arrAt 5 cfg0.N = outOf (insOf m) := by
  refine (dat m c).arrAt_eq_of_after_last 5 t0_0 (by decide +kernel) _ fun j => ?_
  rfl

theorem WP_upd {α : Type} (c : Fin 16) (p : PR F α) (Q : α → sProp 𝕄) : WP c p (fun a => iprop(|={Set.univ}=> Q a)) ⊢ WP c p Q := wp_fupd _ _ _ _ _
theorem WP_dev {α : Type} (c : Fin 16) (k : Dev nD → PR F α) (Q : α → sProp 𝕄) : WP c (k c) Q ⊢ WP c (Prog.lift .deviceId >>= k) Q :=
  Entails.of_eq (wp_deviceId (defs := defs₀ (F := F)) (𝒱 := 𝒱₀) (c := ((c : Dev nD) : Thread nD τ)) (bd := none) (E := Set.univ) (k := k) (Q := Q)).symm

/-- The body, with what the pipeline hands it and takes back. -/
theorem body (c : Dev nD) : BodyObligation (dat m c) defs₀ 𝒱₀ () Set.univ := fun t => by
  obtain rfl := fin_N0 t
  rw [bigSep_W0, bigSep_W0]
  rw [show (dat m c).Φ t0_0.castSucc = iprop(Xk m c ∗ scr c ∗ ∃ r, prngReg c r) from rfl,
    show (dat m c).Φ t0_0.succ = iprop(Yk c ∗ Pipeline.ownSems0 osem c ∗ scr c ∗ ∃ r, prngReg c r) from rfl]
  show _ ⊢ WP c (bodyAt0 t0_0) _
  unfold bodyAt0
  rw [body_eq]
  unfold Xk scr Yk
  iintro ⟨⟨⟨%κ, #Hc, Hb⟩, ⟨HA, HB⟩, Hreg⟩, HO, ⟨%d0, H0⟩, ⟨%d1, H1⟩, ⟨%d2, H2⟩, ⟨%d3, H3⟩, ⟨%d4, H4⟩, ⟨%d5, H5⟩⟩
  ihave HO' := (owes_out m c _ (O₀ c) (owed_first m c)) $$ HO
  rw [before_0, before_1, before_2, before_3, before_4]
  ihave H0' := (Entails.of_eq (owns_whole ((c : Dev nD) : Thread nD τ) cc0_stg0_0 fullShare (insOf m c).x)) $$ H0
  ihave H1' := (Entails.of_eq (owns_whole ((c : Dev nD) : Thread nD τ) cc0_stg1_0 fullShare (insOf m c).wq)) $$ H1
  ihave H2' := (Entails.of_eq (owns_whole ((c : Dev nD) : Thread nD τ) cc0_stg2_0 fullShare (insOf m c).k)) $$ H2
  ihave H3' := (Entails.of_eq (owns_whole ((c : Dev nD) : Thread nD τ) cc0_stg3_0 fullShare (insOf m c).v)) $$ H3
  ihave H4' := (Entails.of_eq (owns_whole ((c : Dev nD) : Thread nD τ) cc0_stg4_0 fullShare (insOf m c).wo)) $$ H4
  ihave H5' := (Entails.of_eq (owns_whole ((c : Dev nD) : Thread nD τ) cc0_stg5_0 fullShare _)) $$ H5
  iapply (WP_upd c _ _)
  iapply (WP_dev c _ _)
  iapply (body_run (insOf m) κ c)
  isplitr; · iexact Hc
  isplitl [Hb]; · iexact Hb
  isplitl [HO']; · iexact HO'
  isplitl [H0' H1' H2' H3' H4']
  · unfold ins
    isplitl [H0']; · iexact H0'
    isplitl [H1']; · iexact H1'
    isplitl [H2']; · iexact H2'
    isplitl [H3']; · iexact H3'
    iexact H4'
  isplitl [HA]; · iexact HA
  isplitl [HB]; · iexact HB
  isplitl [H5']; · iexists d5; iexact H5'
  unfold ins
  iintro ⟨Haf, HO, ⟨H0, H1, H2, H3, H4⟩, HA, HB, H5⟩
  imod (closing (insOf m) κ c) $$ [Haf] with ⟨Hbar, Hown⟩
  · isplitr; · iexact Hc
    iexact Haf
  imodintro
  isplitl [Hbar Hown HA HB Hreg]
  · isplitl [Hbar]; · iexact Hbar
    isplitl [Hown]; · iexact Hown
    isplitl [HA HB]
    · isplitl [HA]; · iexists _; iexact HA
      iexists _; iexact HB
    iexact Hreg
  isplitl [HO]; · iapply (owes_in m c t0_0.succ 0 (owed_last m c)); iexact HO
  isplitl [H0]; · iapply (Entails.of_eq (owns_whole ((c : Dev nD) : Thread nD τ) cc0_stg0_0 fullShare (insOf m c).x).symm); iexact H0
  isplitl [H1]; · iapply (Entails.of_eq (owns_whole ((c : Dev nD) : Thread nD τ) cc0_stg1_0 fullShare (insOf m c).wq).symm); iexact H1
  isplitl [H2]; · iapply (Entails.of_eq (owns_whole ((c : Dev nD) : Thread nD τ) cc0_stg2_0 fullShare (insOf m c).k).symm); iexact H2
  isplitl [H3]; · iapply (Entails.of_eq (owns_whole ((c : Dev nD) : Thread nD τ) cc0_stg3_0 fullShare (insOf m c).v).symm); iexact H3
  isplitl [H4]; · iapply (Entails.of_eq (owns_whole ((c : Dev nD) : Thread nD τ) cc0_stg4_0 fullShare (insOf m c).wo).symm); iexact H4
  iapply (Entails.of_eq (owns_whole ((c : Dev nD) : Thread nD τ) cc0_stg5_0 fullShare (outOf (insOf m))).symm); iexact H5

/-! ## The call's record -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem opens (c : Dev nD) : iprop(Tk m c ∗ Pipeline.ownSems0 osem c ∗ levAts L lv) ⊢ (|={Set.univ}=> Xk m c : sProp 𝕄) := by
  rw [show (levAts L lv : sProp 𝕄) = levs F from by unfold levs; rfl]
  unfold Tk Xk
  iintro ⟨⟨%κ, Hk⟩, Ho, #Hl⟩
  imod (opening (insOf m) κ c) $$ [Hk Ho] with H
  · isplitl [Hk]; · iexact Hk
    isplitl [Ho]; · iexact Ho
    iexact Hl
  imodintro
  iexists κ; iexact H

theorem enters (c : Dev nD) :
    iprop(Pipeline.scopedRest (Pipeline.pin (pcfgs (F := F)) adm 0).spec c ∗ (∃ r, prngReg c r) ∗ StableHlo.held (c.tc : Thread nD τ) ∅ (V1 m c) ∗ Xk m c)
      ⊢ ((pdats m 0 c).Φ 0 : sProp 𝕄) := by
  rw [show (pdats m 0 c).Φ 0 = iprop(Xk m c ∗ scr c ∗ ∃ r, prngReg c r) from rfl,
    show (Pipeline.scopedRest (Pipeline.pin (pcfgs (F := F)) adm 0).spec c : sProp 𝕄) = scr c from scopedRest0_eq c]
  iintro ⟨Hs, Hp, -, HX⟩
  isplitl [HX]; · iexact HX
  isplitl [Hs]; · iexact Hs
  iexact Hp

theorem held_none (c : Dev nD) (V : Valuation τ sig (Elt F)) : (StableHlo.held (c.tc : Thread nD τ) ∅ V : sProp 𝕄) = iprop(emp) := by
  unfold StableHlo.held; exact BI.bigSep_empty

theorem leaves (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [show (pdats m 0 c).Φ (Fin.last _) = iprop(Yk c ∗ Pipeline.ownSems0 osem c ∗ scr c ∗ ∃ r, prngReg c r) from rfl,
    show (Pipeline.scopedRest (Pipeline.pin (pcfgs (F := F)) adm 0).spec c : sProp 𝕄) = scr c from scopedRest0_eq c, held_none]
  iintro ⟨HY, Ho, Hs, Hp⟩
  isplitl [Hs]; · iexact Hs
  isplitl [Hp]; · iexact Hp
  isplitr; · iempintro
  isplitl [Ho]; · iexact Ho
  iexact HY

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  rw [show (pdats m 0 c).owed t = if t.val = 0 then O₀ c else 0 from rfl] at h
  split at h
  · exact above_O₀ c g i h
  · exact absurd h (Nat.lt_irrefl 0)

theorem stage_low : ∀ (w : Fin 6) (s : Fin (spec0 w).nbuf), lvl (.dma ((spec0 w).sem s)) = 0 := by decide

theorem arr_last (c : Dev nD) : ∀ w : Fin 6, (dat m c).arrAt w cfg0.N = V2 m (outs m) c (Proc.devRef .tc (Pipeline.arrRef spec0 w))
  | 0 => ((dat m c).arrAt_in 0 rfl _).trans (V2_of m (outs m) c main_arg0 (by decide)).symm
  | 1 => ((dat m c).arrAt_in 1 rfl _).trans (V2_of m (outs m) c main_arg1 (by decide)).symm
  | 2 => ((dat m c).arrAt_in 2 rfl _).trans (V2_of m (outs m) c main_v10 (by decide)).symm
  | 3 => ((dat m c).arrAt_in 3 rfl _).trans (V2_of m (outs m) c main_v15 (by decide)).symm
  | 4 => ((dat m c).arrAt_in 4 rfl _).trans (V2_of m (outs m) c main_arg4 (by decide)).symm
  | 5 => (arr_end m c).trans (V2_v16 m c).symm

/-- The unscoped buffers that are no window's array. -/
abbrev restBufs : Finset (DevRef τ sig) := Pipeline.ucRefs τ sig \ Pipeline.arrRefs (τ := τ) spec0

theorem arr_sub : Pipeline.arrRefs (τ := τ) spec0 ⊆ Pipeline.ucRefs τ sig := by decide
theorem v16_arr : Proc.devRef .tc main_v16 ∈ Pipeline.arrRefs (τ := τ) spec0 := by decide
theorem rest_same (c : Dev nD) : ∀ b ∈ restBufs \ ∅, V2 m (outs m) c b = V1 m c b := fun b hb =>
  Function.update_of_ne (fun h => (Finset.mem_sdiff.mp (Finset.mem_sdiff.mp hb).1).2 (by rw [h]; exact v16_arr)) _ _

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_own
    ∅ restBufs (Finset.empty_subset _) kitP rfl (fun c => (body m c).loose)
    (fun _ => 0) O₀ (fun c => (owed_zero m c).trans (zero_add _).symm) (owed_last m) (fun _ => rfl) (fun c w => Pipeline.Dat.share_full _ (fun _ => rfl) w)
    (V1 m) (V2 m (outs m)) (rest_same m) (Tk m) Yk (Xk m) Yk (opens m) (enters m) (leaves m)
    (fun c => by iintro H; imodintro; iexact H)
    (fun _ => 0)
    ⟨fun c w s => by rw [L_tc]; exact Finset.mem_singleton_self _, fun c w s => le_of_eq (stage_low w s), fun c t g i h => cut m c t g i h⟩
    (fun _ => iprop(emp)) (fun _ _ => rfl) (arr_last m)

end Cert.KernelIdeal
end
-- ==== Proof.Whole.lean ====
module
public import proofs.«01_k».proof.Proof.Region
/-!
The launch: every cell's invariant allocated, tokens and credits dealt to the devices, and the whole program run.
-/
@[expose] public section
noncomputable section
namespace Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Seg HostSeg RegionSeg)
open Cert.KernelIdeal.Gen

variable {F : FTy → Type} [FloatOps F]

local notation "𝕄" => MT nD τ sig Unit (Elt F) ℕ UU ℕ

variable (m : (ℓ : Loc nD τ sig) → Buf (Elt F) ℓ)

/-! ## The call's ends -/

/-- What rides beside the buffers: before the call, and after it. -/
def E (i : Fin 2) (c : Dev nD) : sProp 𝕄 :=
  if i = 0 then iprop(Tk m c ∗ owing c (O₀ c) ∗ ∃ r, prngReg c r)
  else iprop(semVal (barCell c) 0 ∗ ∃ W, owes ((c : Dev nD) : Thread nD τ) (0 : CellTallies nD τ sig Unit) W)

theorem E_0 (c : Dev nD) : E m 0 c = iprop(Tk m c ∗ owing c (O₀ c) ∗ ∃ r, prngReg c r) := if_pos rfl
theorem E_1 (c : Dev nD) : E m 1 c = iprop(semVal (barCell c) 0 ∗ ∃ W, owes ((c : Dev nD) : Thread nD τ) (0 : CellTallies nD τ sig Unit) W) :=
  if_neg (by decide)

theorem reg_pre (c : Dev nD) :
    iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) restBufs (V1 m c) ∗ emp) ∗ Tk m c ∗ ∃ Wd, owes (c : Thread nD τ) (0 + O₀ c) Wd)
  rw [E_0, StableHlo.held_sub_split (c : Thread nD τ) arr_sub (V1 m c), zero_add]
  unfold owing
  iintro ⟨⟨Ha, Hr⟩, HT, HO, Hp⟩
  isplitl [Ha]; · iexact Ha
  isplitl [Hp]; · iexact Hp
  isplitl [Hr]
  · isplitl [Hr]; · iexact Hr
    iempintro
  isplitl [HT]; · iexact HT
  iexact HO

theorem reg_post (c : Dev nD) :
    (reg m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) restBufs (V2 m (outs m) c) ∗ emp) ∗ Yk c
    ∗ ∃ Wd, owes (c : Thread nD τ) (0 : CellTallies nD τ sig Unit) Wd) ⊢ _
  rw [E_1, StableHlo.held_sub_split (c : Thread nD τ) arr_sub (V2 m (outs m) c)]
  unfold Yk
  iintro ⟨Ha, -, ⟨Hr, -⟩, Hb, HO⟩
  isplitl [Ha Hr]
  · isplitl [Ha] <;> iassumption
  isplitl [Hb] <;> iassumption

/-! ## The cells and the tokens -/

def barEmb : Fin 16 ↪ GSem nD τ sig := ⟨barCell, fun _ _ h => congrArg (fun g : GSem nD τ sig => g.1.1) h⟩

theorem reg_ne_dma {r : Sem sig} {n : DmaSem sig} : (SemLoc.reg r : SemLoc sig) ≠ .dma n := fun h => by cases h
theorem bar_ne_dma (c d : Fin 16) (k : Fin 4) (s : Fin 16) : barCell c ≠ cell k d s := fun h => reg_ne_dma (congrArg Prod.snd h)

theorem cell_inj {k k' : Fin 4} {c c' s s' : Fin 16} (h : cell k c s = cell k' c' s') : c = c' ∧ k = k' ∧ s = s' :=
  ⟨congrArg (fun g : GSem nD τ sig => g.1.1) h, semNo_inj (SemLoc.dma.inj (congrArg Prod.snd h))⟩

def cellEmb : Fin 16 × Fin 4 × Fin 16 ↪ GSem nD τ sig :=
  ⟨fun x => cell x.2.1 x.1 x.2.2, fun x y h => by
    obtain ⟨h1, h2, h3⟩ := cell_inj h
    exact Prod.ext h1 (Prod.ext h2 h3)⟩

abbrev barCells : Finset (GSem nD τ sig) := Finset.univ.map barEmb
abbrev dmaCells : Finset (GSem nD τ sig) := Finset.univ.map cellEmb

theorem disjoint_cells : Disjoint barCells dmaCells := by
  rw [Finset.disjoint_left]
  rintro g h₁ h₂
  obtain ⟨c, -, rfl⟩ := Finset.mem_map.mp h₁
  obtain ⟨x, -, h⟩ := Finset.mem_map.mp h₂
  exact bar_ne_dma _ _ _ _ h.symm

/-- A barrier cell's duty, named by its payer. -/
def barTok : Fin 16 × Fin 16 ↪ GSem nD τ sig × ℕ × Fin 16 :=
  ⟨fun x => (barCell x.1, 0, x.2), fun _ _ h =>
    Prod.ext (barEmb.injective (congrArg Prod.fst h)) (congrArg (fun t : GSem nD τ sig × ℕ × Fin 16 => t.2.2) h)⟩
/-- A copy counter's one duty. -/
def dmaTok : Fin 16 × Fin 4 × Fin 16 ↪ GSem nD τ sig × ℕ × Fin 16 :=
  ⟨fun x => (cellEmb x, 0, 0), fun _ _ h => cellEmb.injective (congrArg Prod.fst h)⟩

theorem disjoint_toks : Disjoint ((Finset.univ : Finset (Fin 16 × Fin 16)).map barTok) (Finset.univ.map dmaTok) := by
  rw [Finset.disjoint_left]
  rintro g h₁ h₂
  obtain ⟨c, -, rfl⟩ := Finset.mem_map.mp h₁
  obtain ⟨x, -, h⟩ := Finset.mem_map.mp h₂
  exact bar_ne_dma _ _ _ _ (congrArg Prod.fst h).symm

def talkToks : Finset (GSem nD τ sig × ℕ × Fin 16) := Finset.univ.map barTok ∪ Finset.univ.map dmaTok

/-- Families over pairs and triples, and two ways round. -/
theorem fam_swap (Φ : Fin 16 → Fin 16 → sProp 𝕄) : (all fun a => all fun b => Φ a b) = all fun b => all fun a => Φ a b := bigSep_univ_comm Φ
theorem fam_pairs (Φ : Fin 16 × Fin 16 → sProp 𝕄) : bigSep Finset.univ Φ = all fun a => all fun b => Φ (a, b) := bigSep_univ_prod Φ
theorem fam_triples (Φ : Fin 16 → Fin 4 → Fin 16 → sProp 𝕄) :
    bigSep Finset.univ (fun x : Fin 16 × Fin 4 × Fin 16 => Φ x.1 x.2.1 x.2.2)
      = iprop((all fun c => all (Φ c 0)) ∗ (all fun c => all (Φ c 1)) ∗ (all fun c => all (Φ c 2)) ∗ (all fun c => all (Φ c 3))) := by
  rw [bigSep_univ_prod (fun x : Fin 16 × Fin 4 × Fin 16 => Φ x.1 x.2.1 x.2.2), ← fam_sep, ← fam_sep, ← fam_sep]
  exact bigSep_congr fun c _ => fam4 (Φ c)

/-- The tokens as the devices that pay hold them. -/
def paid (c : Fin 16) : sProp 𝕄 :=
  iprop((all fun d => dutyTok ER (barCell d) 0 c)
    ∗ (all fun s => iprop(dutyTok ER (cell 0 c s) 0 0 ∗ dutyTok ER (cell 1 s c) 0 0))
    ∗ (all fun s => iprop(dutyTok ER (cell 2 c s) 0 0 ∗ dutyTok ER (cell 3 s c) 0 0)))

theorem toks_dealt : bigSep talkToks (fun x => (dutyTok ER x.1 x.2.1 x.2.2 : sProp 𝕄)) ⊢ all fun c => paid c := by
  have hb : bigSep ((Finset.univ : Finset (Fin 16 × Fin 16)).map barTok) (fun x => (dutyTok ER x.1 x.2.1 x.2.2 : sProp 𝕄))
      = all fun c => all fun d => dutyTok ER (barCell d) 0 c := by
    rw [bigSep_map, fam_pairs, fam_swap]; rfl
  have hd : bigSep ((Finset.univ : Finset (Fin 16 × Fin 4 × Fin 16)).map dmaTok) (fun x => (dutyTok ER x.1 x.2.1 x.2.2 : sProp 𝕄))
      = iprop((all fun c => all fun s => dutyTok ER (cell 0 c s) 0 0) ∗ (all fun c => all fun s => dutyTok ER (cell 1 s c) 0 0)
        ∗ (all fun c => all fun s => dutyTok ER (cell 2 c s) 0 0) ∗ (all fun c => all fun s => dutyTok ER (cell 3 s c) 0 0)) := by
    rw [bigSep_map, fam_swap (fun c s => dutyTok ER (cell 1 s c) 0 0), fam_swap (fun c s => dutyTok ER (cell 3 s c) 0 0)]
    exact fam_triples fun c k s => dutyTok ER (cell k c s) 0 0
  unfold talkToks
  rw [fam_union disjoint_toks, hb, hd]
  unfold paid
  iintro ⟨Hb, H0, H1, H2, H3⟩
  iapply fam_join
  isplitl [Hb]; · iexact Hb
  iapply fam_join
  isplitl [H0 H1]
  · iapply (fam_mono fun c _ => fam_join (fun s => dutyTok ER (cell 0 c s) 0 0) (fun s => dutyTok ER (cell 1 s c) 0 0))
    iapply fam_join
    isplitl [H0] <;> iassumption
  · iapply (fam_mono fun c _ => fam_join (fun s => dutyTok ER (cell 2 c s) 0 0) (fun s => dutyTok ER (cell 3 s c) 0 0))
    iapply fam_join
    isplitl [H2] <;> iassumption

/-! ## The launch credit -/

theorem sum_at {α : Type} (D : α → CellTallies nD τ sig Unit) (l : List α) (g : GSem nD τ sig) :
    (l.map D).sum g () = (l.map fun a => D a g ()).sum := by
  induction l with
  | nil => rfl
  | cons a l ih => rw [List.map_cons, List.map_cons, List.sum_cons, List.sum_cons, ← ih]; rfl

theorem sum_none {α : Type} (f : α → ℕ) (l : List α) (h : ∀ a, f a = 0) : (l.map f).sum = 0 := by
  induction l with
  | nil => rfl
  | cons a l ih => rw [List.map_cons, List.sum_cons, h, ih]

theorem halves_once (c : Fin 16) (n : ℕ) : (low8.map fun e => if e = c then n else 0).sum + (high8.map fun e => if e = c then n else 0).sum = n := by
  revert c; intro c; fin_cases c <;> simp
theorem all_once (c : Fin 16) (n : ℕ) : (all16.map fun e => if e = c then n else 0).sum = n := by
  revert c; intro c; fin_cases c <;> simp
theorem steps_once : ∀ d c : Fin 16, (steps15.map fun j => if fwd d j = c then 1 else 0).sum = if d = c then 0 else 1 := by decide +kernel

theorem D0_bar (d j c : Fin 16) : D0 d j (barCell c) () = if fwd d j = c then 1 else 0 := by
  unfold D0; rw [tallyAt_apply]
  by_cases h : fwd d j = c
  · rw [if_pos h, if_pos ⟨by rw [h], rfl⟩]
  · rw [if_neg h, if_neg fun h' => h (barEmb.injective h'.1).symm]
theorem D0_cell (d j : Fin 16) (k : Fin 4) (c s : Fin 16) : D0 d j (cell k c s) () = 0 := by
  unfold D0; rw [tallyAt_ne_cell (bar_ne_dma _ _ _ _).symm]; rfl
theorem D1_bar (d e c : Fin 16) : D1 d e (barCell c) () = 0 := by
  unfold D1; split
  · rfl
  · rw [tallyAt_ne_cell (bar_ne_dma _ _ _ _)]; rfl
theorem D3_bar (d e c : Fin 16) : D3 d e (barCell c) () = 0 := by
  unfold D3; split
  · rfl
  · rw [tallyAt_ne_cell (bar_ne_dma _ _ _ _)]; rfl
theorem tally_cell (k k' : Fin 4) (e d c s : Fin 16) :
    (if d = e then 0 else tallyAt (cell k e d) () N : CellTallies nD τ sig Unit) (cell k' c s) ()
      = if e = c then (if d = s ∧ k = k' ∧ c ≠ s then N else 0) else 0 := by
  by_cases hde : d = e
  · rw [if_pos hde]
    subst hde
    by_cases hc : d = c
    · subst hc
      rw [if_pos rfl, if_neg fun h => h.2.2 h.1]; rfl
    · rw [if_neg hc]; rfl
  · rw [if_neg hde, tallyAt_apply]
    by_cases hc : e = c
    · subst hc
      rw [if_pos rfl]
      by_cases h : d = s ∧ k = k' ∧ e ≠ s
      · obtain ⟨rfl, rfl, _⟩ := h
        rw [if_pos ⟨rfl, rfl⟩, if_pos ⟨rfl, rfl, fun h => hde h.symm⟩]
      · rw [if_neg h, if_neg]
        rintro ⟨h', -⟩
        obtain ⟨-, h2, h3⟩ := cell_inj h'
        exact h ⟨h3.symm, h2.symm, fun h4 => hde (h3.symm.trans h4.symm)⟩
    · rw [if_neg hc, if_neg fun h => hc (cell_inj h.1).1.symm]

theorem owed_at (d : Fin 16) (g : GSem nD τ sig) : O₀ d g () = (steps15.map fun j => D0 d j g ()).sum
    + ((low8.map fun e => D1 d e g ()).sum + ((high8.map fun e => D1 d e g ()).sum + (all16.map fun e => D3 d e g ()).sum)) := by
  rw [← sum_at, ← sum_at, ← sum_at, ← sum_at]; rfl

theorem owed_bar (d c : Fin 16) : O₀ d (barCell c) () = if d = c then 0 else 1 := by
  rw [owed_at, sum_none _ low8 fun e => D1_bar d e c, sum_none _ high8 fun e => D1_bar d e c, sum_none _ all16 fun e => D3_bar d e c, ← steps_once d c]
  simp only [D0_bar, Nat.add_zero]

theorem owed_cell (d : Fin 16) (k : Fin 4) (c s : Fin 16) (hk : k = 1 ∨ k = 3) (h : c ≠ s) : O₀ d (cell k c s) () = if d = s then N else 0 := by
  have e1 : (fun e => D1 d e (cell k c s) ()) = fun e => if e = c then (if d = s ∧ 1 = k ∧ c ≠ s then N else 0) else 0 :=
    funext fun e => tally_cell 1 k e d c s
  have e3 : (fun e => D3 d e (cell k c s) ()) = fun e => if e = c then (if d = s ∧ 3 = k ∧ c ≠ s then N else 0) else 0 :=
    funext fun e => tally_cell 3 k e d c s
  rw [owed_at, sum_none _ steps15 fun j => D0_cell d j k c s, e1, e3, all_once, ← Nat.add_assoc (List.sum _), halves_once, Nat.zero_add]
  rcases hk with rfl | rfl <;> by_cases hd : d = s <;> simp [hd, h]

theorem launch_bar (c : Fin 16) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_cell (k : Fin 4) (c s : Fin 16) (hk : k = 1 ∨ k = 3) (h : c ≠ s) :
    tallyOn (cell k c s) (launchCredit (Pipeline.owing O₀) 0 (cell k c s)) = (tallyAt (cell k c s) () N : CellTallies nD τ sig Unit) := by
  unfold tallyAt; refine congrArg _ (Finsupp.ext fun u => ?_); cases u
  rw [Pipeline.launchCredit_owing, Finsupp.single_eq_same, Finset.sum_congr rfl fun d _ => owed_cell d k c s hk h,
    Finset.sum_ite_eq' Finset.univ s fun _ => N, if_pos (Finset.mem_univ _)]

/-- The counters a device's launch credit is read at. -/
def semEmb : Fin 4 × Fin 16 ↪ SemLoc sig :=
  ⟨fun x => .dma (semNo x.1 x.2), fun _ _ h => by
    obtain ⟨h1, h2⟩ := semNo_inj (SemLoc.dma.inj h)
    exact Prod.ext h1 h2⟩

theorem creds (c : Fin 16) :
    (Pipeline.launchCred O₀ c : sProp 𝕄) ⊢ iprop(cred (tallyAt (barCell c) () 15) ∗ all (CR c 1) ∗ all (CR c 3)) := by
  have hbar : SemLoc.reg barS ∉ (Finset.univ : Finset (Fin 4 × Fin 16)).map semEmb := by
    intro h
    obtain ⟨x, -, h⟩ := Finset.mem_map.mp h
    exact reg_ne_dma h.symm
  have hk (k : Fin 4) (hk : k = 1 ∨ k = 3) (s : Fin 16) :
      cred (tallyOn (cell k c s) (launchCredit (Pipeline.owing O₀) 0 (cell k c s))) ⊢ (CR c k s : sProp 𝕄) := by
    by_cases h : c = s
    · unfold CR; rw [if_pos h]
      iintro -; iempintro
    · unfold CR; rw [if_neg h, launch_cell k c s hk h]
  unfold Pipeline.launchCred
  refine via (bigSep_subset (Finset.subset_univ (insert (SemLoc.reg barS) ((Finset.univ : Finset (Fin 4 × Fin 16)).map semEmb)))) ?_
  rw [fam_insert hbar, bigSep_map]
  have h4 := fam4 (F := F) fun k s => cred (tallyOn (cell k c s) (launchCredit (Pipeline.owing O₀) 0 (cell k c s)))
  show iprop(_ ∗ bigSep Finset.univ fun x : Fin 4 × Fin 16 =>
    cred (tallyOn (cell x.1 c x.2) (launchCredit (Pipeline.owing O₀) 0 (cell x.1 c x.2)))) ⊢ _
  rw [h4]
  iintro ⟨Hb, H'⟩
  icases H' with ⟨-, H1, -, H3⟩
  isplitl [Hb]
  · iapply (Entails.of_eq (congrArg cred (launch_bar c))) $$ Hb
  isplitl [H1]
  · iapply (fam_mono fun s _ => hk 1 (.inl rfl) s) $$ H1
  · iapply (fam_mono fun s _ => hk 3 (.inr rfl) s) $$ H3

/-! ## The launch state -/

def u₀ : UU :=
  (initOf (Pipeline.cells (Pipeline.pin (pcfgs (F := F)) adm) cellOf_inj) (Pipeline.launchToks (Pipeline.pin (pcfgs (F := F)) adm) cellOf_inj),
    launchOf barCells dmaCells talkToks)

/-- The protocol's launch element, held by device 0 until it is dealt. -/
def G (c : Dev nD) : sProp 𝕄 := if c = (0 : Fin 16) then BI.own (ER (launchOf barCells dmaCells talkToks)) else iprop(emp)

theorem G_all : bigSep Finset.univ (G (F := F)) = BI.own (ER (launchOf barCells dmaCells talkToks)) := by
  rw [show bigSep Finset.univ (G (F := F)) = _ from fam_split (0 : Fin 16) _,
    bigSep_congr (s := Finset.univ.erase (0 : Fin 16)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscoped_eq : ∀ sm : SemLoc sig, sm.isScoped .tc = false → sm = .reg barS := by decide

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V3 m (outs m) c) ∗ semVal (barCell c) 0)

/-- What of the protocol's ghost state stays with device `c`. -/
def linear (c : Fin 16) : sProp 𝕄 :=
  iprop(atPos ER (barCell c) 0 ∅ 0 ∗ (bigSep Finset.univ fun x : Fin 4 × Fin 16 => openTok ER (cell x.1 c x.2)) ∗ paid c)
/-- What else it holds at launch. -/
def bundle (c : Fin 16) : sProp 𝕄 :=
  iprop(StableHlo.held ((c : Dev nD) : Thread nD τ) (Pipeline.ucRefs τ sig) (V0 m c)
    ∗ (cred (tallyAt (barCell c) () 15) ∗ all (CR c 1) ∗ all (CR c 3)) ∗ owes ((c : Dev nD) : Thread nD τ) (O₀ c) ∅ ∗ ∃ r, prngReg (c : Dev nD) r)

theorem T₀_intro (κ : GSem nD τ sig → ℕ) (c : Fin 16) : iprop(known (insOf m) κ ∗ (linear c ∗ bundle m c)) ⊢ T₀ m c := by
  unfold T₀ linear bundle
  rw [E_0]
  unfold Tk dealt owing paid
  iintro ⟨#HK, ⟨Ha, Hop, Hb, H01, H23⟩, Hh, ⟨Hc, HC⟩, HO, Hp⟩
  isplitl [Hh]; · iexact Hh
  isplitr [HO Hp]
  · iexists κ
    isplitr; · iexact HK
    isplitl [Ha]; · iexact Ha
    isplitl [Hc]; · iexact Hc
    isplitl [Hb]; · iexact Hb
    isplitl [H01]; · iexact H01
    isplitl [H23]; · iexact H23
    isplitl [HC]; · iexact HC
    iexact Hop
  isplitl [HO]
  · iexists ∅; iexact HO
  iexact Hp

variable (ρ : Dev nD → PrngReg)

theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem bar_vals : (all fun c => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem bar_at : bigSep barCells (fun g => (atPos ER g 0 ∅ 0 : sProp 𝕄)) ⊢ (all fun c => (atPos ER (barCell c) 0 ∅ 0 : sProp 𝕄)) :=
  Entails.of_eq (bigSep_map (s := Finset.univ) barEmb (Φ := fun g : GSem nD τ sig => (atPos ER g 0 ∅ 0 : sProp 𝕄)))
theorem bar_reached : bigSep barCells (fun g => (reached ER g 0 : sProp 𝕄)) ⊢ (all fun c => (reached ER (barCell c) 0 : sProp 𝕄)) :=
  Entails.of_eq (bigSep_map (s := Finset.univ) barEmb (Φ := fun g : GSem nD τ sig => (reached ER g 0 : sProp 𝕄)))
theorem dma_open : bigSep dmaCells (fun g => (openTok ER g : sProp 𝕄))
    ⊢ (all fun c => bigSep Finset.univ fun x : Fin 4 × Fin 16 => (openTok ER (cell x.1 c x.2) : sProp 𝕄)) :=
  Entails.of_eq ((bigSep_map (s := Finset.univ) cellEmb (Φ := fun g : GSem nD τ sig => (openTok ER g : sProp 𝕄))).trans
    (bigSep_univ_prod fun x : Fin 16 × Fin 4 × Fin 16 => (openTok ER (cell x.2.1 x.1 x.2.2) : sProp 𝕄)))
theorem cell_invs (κ : GSem nD τ sig → ℕ) : bigSep (barCells ∪ dmaCells) (fun g => (cellInv ER (Rd (insOf m)) (κ g) g : sProp 𝕄))
    ⊢ iprop((all fun d => cellInv ER (Rd (insOf m)) (κ (barCell d)) (barCell d))
      ∗ bigSep Finset.univ fun x : Fin 16 × Fin 4 × Fin 16 => cellInv ER (Rd (insOf m)) (κ (cell x.2.1 x.1 x.2.2)) (cell x.2.1 x.1 x.2.2)) :=
  Entails.of_eq ((fam_union disjoint_cells _).trans (congrArg₂ (fun P Q : sProp 𝕄 => iprop(P ∗ Q))
    (bigSep_map (s := Finset.univ) barEmb (Φ := fun g : GSem nD τ sig => (cellInv ER (Rd (insOf m)) (κ g) g : sProp 𝕄)))
    (bigSep_map (s := Finset.univ) cellEmb (Φ := fun g : GSem nD τ sig => (cellInv ER (Rd (insOf m)) (κ g) g : sProp 𝕄)))))

theorem cores :
    (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((all fun c => bundle m c) ∗ (all fun c => semVal (barCell c) 0) ∗ BI.own (ER (launchOf barCells dmaCells talkToks))) : sProp 𝕄) := by
  rw [← G_all]
  refine via (bigSep_mono (Ψ := fun c : Fin 16 => iprop(bundle m c ∗ (semVal (barCell c) 0 ∗ G c))) fun c _ => core m ρ c) ?_
  · iintro H
    ihave H2 := fam_part (bundle m) (fun c => iprop(semVal (barCell c) 0 ∗ G c)) $$ H
    icases H2 with ⟨HB, H3⟩
    ihave H4 := fam_part (fun c => semVal (barCell c) 0) (fun c => G c) $$ H3
    icases H4 with ⟨Hv, HG⟩
    isplitl [HB]; · iexact HB
    isplitl [Hv] <;> iassumption

theorem T₀_all (κ : GSem nD τ sig → ℕ) :
    iprop(known (insOf m) κ ∗ (all fun c => linear c) ∗ (all fun c => bundle m c)) ⊢ (bigSep Finset.univ (T₀ m) : sProp 𝕄) := by
  refine via ?_ (bigSep_with_persistent (R := known (insOf m) κ) (Φ := fun c : Fin 16 => iprop(linear c ∗ bundle m c)) fun c _ => T₀_intro m κ c)
  · iintro ⟨#HK, HL, HB⟩
    isplitr; · iexact HK
    iapply fam_join
    isplitl [HL] <;> iassumption

theorem linear_all :
    iprop(bigSep barCells (fun g => (atPos ER g 0 ∅ 0 : sProp 𝕄)) ∗ bigSep dmaCells (fun g => (openTok ER g : sProp 𝕄))
      ∗ bigSep talkToks (fun x => (dutyTok ER x.1 x.2.1 x.2.2 : sProp 𝕄))) ⊢ (all fun c => linear c : sProp 𝕄) := by
  unfold linear
  iintro ⟨Hat, Hopen, Htok⟩
  iapply fam_join; isplitl [Hat]; · iapply bar_at $$ Hat
  iapply fam_join; isplitl [Hopen]; · iapply dma_open $$ Hopen
  iapply toks_dealt $$ Htok

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H2 := (cores m ρ) $$ H
  icases H2 with ⟨HB, Hv, Hu⟩
  imod (Rounds.fund_launch ER (Rd (insOf m)) disjoint_cells (fun g _ h => h) talkToks) $$ [Hv Hu] with ⟨%κ, -, #Hinv, #Hr, Hat, Hopen, Htok⟩
  · isplitl [Hv]
    · iapply bar_vals $$ Hv
    · iexact Hu
  imodintro
  iapply (T₀_all m κ)
  isplitr
  · unfold known
    ihave Hi := (cell_invs m κ) $$ Hinv
    icases Hi with ⟨Hi1, Hi2⟩
    isplitl [Hi1]; · iexact Hi1
    isplitl [Hi2]; · iexact Hi2
    iapply bar_reached $$ Hr
  isplitr [HB]
  · iapply linear_all
    isplitl [Hat]; · iexact Hat
    isplitl [Hopen] <;> iassumption
  · iexact HB

/-! ## The run -/

theorem kept (c : Dev nD) (r : Ref sig .tc) (hr : Proc.devRef .tc r ∈ Pipeline.ucRefs τ sig) {s : MemSt nD τ sig (Elt F)}
    (h : ∀ b ∈ Pipeline.ucRefs τ sig, s.mem ((c : Thread nD τ).1, b) = V3 m (outs m) c b) :
    s.mem ((c.tc : Thread nD τ).loc r) = V3 m (outs m) c r := h _ hr

set_option backward.isDefEq.respectTransparency.types false in
/-- From any memory with zero counters, every weakly fair execution terminates; every final state has the arguments
    unchanged, the result array holding the gathered sums reshaped, and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v17) = V3 m (outs m) c main_v17) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Seg.run_eq_chain,
        show (segs m (outs m) 𝒱₀ L lv (E m) () (pdats m) (reg m) c).map Seg.prog = [
          StableHlo.seq (hostOps0 c), Prog.lift (.customCall (Pipeline.entry 0) ()), StableHlo.seq hostOps1] from rfl]
      dsimp (config := { failIfUnchanged := false }) only
      exact .rfl)
    (fun c => by simp only [segs, Seg.pipes_host, Seg.pipes_region, Seg.pipes_nil]; decide) O₀ L_of_ne G u₀
    (by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := fun c => by
      refine ⟨.rfl, reg_pre m c, reg_post m c, ?_⟩
      show iprop(StableHlo.held (c : Thread nD τ) (Pipeline.ucRefs τ sig) (V3 m (outs m) c) ∗ E m 1 c)
        ⊢ iprop(Tₙ m c ∗ ∃ W, owes (c : Thread nD τ) (0 : CellTallies nD τ sig Unit) W)
      rw [E_1]; unfold Tₙ
      iintro ⟨Hh, Hb, HO⟩
      isplitr [HO]
      · isplitl [Hh] <;> iassumption
      · iexact HO)
    (hinit := init m ρ)
    (QY := fun c s => (∀ b ∈ Pipeline.ucRefs τ sig, s.mem ((c : Thread nD τ).1, b) = V3 m (outs m) c b) ∧ s.sem (barCell c) = 0)
    (hfin := fun c s' => by
      dsimp only [Tₙ]
      unfold StableHlo.held
      iintro ⟨⟨Hh, Hb⟩, HSI⟩
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      icombine HSI Hb gives %hb
      imodintro
      isplitr
      · ipureintro
        exact ⟨h, by simpa using hb⟩
      iexact HSI)
    (hQ := fun s h hs => ⟨fun c =>
        ⟨⟨(kept m c main_arg0 (by decide) (h c).1).trans (V3_main_arg0 m (outs m) c), (kept m c main_arg1 (by decide) (h c).1).trans (V3_main_arg1 m (outs m) c),
          (kept m c main_arg2 (by decide) (h c).1).trans (V3_main_arg2 m (outs m) c), (kept m c main_arg3 (by decide) (h c).1).trans (V3_main_arg3 m (outs m) c),
          (kept m c main_arg4 (by decide) (h c).1).trans (V3_main_arg4 m (outs m) c)⟩, kept m c main_v17 (by decide) (h c).1⟩,
      sem_eq_zero hs fun c sm hsm => by
        obtain rfl := unscoped_eq sm hsm
        exact (h c).2⟩)

/-- The run without its result: the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).1, h.2⟩) (run_main m ρ)

end Cert.KernelIdeal
end
-- ==== Proof.HostValue.lean ====
/-
  What the host operations before the launch leave for the kernel: of the keys and of the values, device `c`'s four heads, the
  heads' columns laid side by side.
-/
module

public import proofs.«01_k».proof.Proof.Region
public import Idealize.ShloMosaic.Lib.StableHlo.ReadAt
public import Idealize.ShloMosaic.Lib.Pointwise
public import Idealize.ShloMosaic.Lib.DynamicIndex

@[expose] public section

set_option maxRecDepth 16384

noncomputable section

namespace Cert.KernelIdeal

open Idealize.ShloMosaic Idealize.ShloMosaic.TcCoe Cert.KernelIdeal.Gen
open Facts
variable {F : FTy → Type} [FloatOps F]
variable (m : (ℓ : Loc nD τ sig) → Buf (Elt F) ℓ)

/-- The word of device `c`'s first head. -/
def headWord (c : Dev nD) : IVec S_ 32 :=
  muli (id (Host.remui (Host.divui (constantI S_ 32 (Dev.word c)) (constantI S_ 32 1#32)) (constantI S_ 32 16#32))) (constantI S_ 32 4#32)

/-- Where device `c`'s heads start along each axis of the keys and the values. -/
def starts (c : Dev nD) (k : Fin 4) : Int :=
  ((![constantI S_ 32 0#32, constantI S_ 32 0#32,
    select (cmpi .slt (headWord c) (constantI S_ 32 0#32)) (addi (headWord c) (constantI S_ 32 64#32)) (headWord c), constantI S_ 32 0#32] : Fin 4 → IVec S_ 32) k
    (Shape.Idx.first h_S_)).toInt

/-- Device `c`'s heads of the keys or the values. -/
def headsOf {α : Type} (c : Dev nD) (x : S2x128x64x64.Idx → α) : S2x128x256.Idx → α :=
  shapeCast S2x128x256 (Host.dynamicSlice S2x128x4x64 x (starts c) sliceFits_S2x128x64x64_S2x128x4x64) shapeCasts_S2x128x4x64_S2x128x256

/-- The same from any spelling of the starts. -/
theorem headsOf_of_starts {α : Type} (c : Dev nD) (x : S2x128x64x64.Idx → α) (st : Fin 4 → Int)
    (h₀ : st 0 = starts c 0) (h₁ : st 1 = starts c 1) (h₂ : st 2 = starts c 2) (h₃ : st 3 = starts c 3) :
    shapeCast S2x128x256 (Host.dynamicSlice S2x128x4x64 x st sliceFits_S2x128x64x64_S2x128x4x64) shapeCasts_S2x128x4x64_S2x128x256 = headsOf c x := by
  have h : st = starts c := funext fun k => match k with
    | 0 => h₀
    | 1 => h₁
    | 2 => h₂
    | 3 => h₃
  rw [h]; rfl

theorem V1_v10 (c : Dev nD) : V1 m c main_v10 = headsOf c (m ((c.tc : Thread nD τ).loc main_arg2)) := by
  unfold V1 hostOps0
  after_reads_simp
  exact headsOf_of_starts c _ _ rfl rfl rfl rfl

theorem V1_v15 (c : Dev nD) : V1 m c main_v15 = headsOf c (m ((c.tc : Thread nD τ).loc main_arg3)) := by
  unfold V1 hostOps0
  after_reads_simp
  exact headsOf_of_starts c _ _ rfl rfl rfl rfl

/-- The heads of device `c` start at head `4 c`. -/
theorem starts_eq (c : Dev nD) (k : Fin 4) : starts c k = (((![0, 0, 4 * c.val, 0] : Fin 4 → ℕ) k : ℕ) : Int) := by
  revert c k; decide

theorem four_heads (c : Dev nD) : S2x128x64x64.Slices (![0, 0, 4 * c.val, 0] : Fin 4 → ℕ) S2x128x4x64 := by
  revert c; decide

theorem headsOf_apply {α : Type} (c : Dev nD) (x : S2x128x64x64.Idx → α) (b : Fin 2) (j : Fin 128) (n : Fin 256) :
    headsOf c x (ix3 b j n) = x (ix4 b j ⟨4 * c.val + n.val / 64, by have : c.val < 16 := c.isLt; omega⟩ ⟨n.val % 64, by omega⟩) := by
  rw [headsOf, Host.dynamicSlice_eq_extractStridedSlice _ _ _ _ _ (four_heads c) (starts_eq c)]
  pointwise

theorem insOf_x (c : Dev nD) : (insOf m c).x = m ((c.tc : Thread nD τ).loc main_arg0) := V1_of m c main_arg0 (by decide)
theorem insOf_wq (c : Dev nD) : (insOf m c).wq = m ((c.tc : Thread nD τ).loc main_arg1) := V1_of m c main_arg1 (by decide)
theorem insOf_wo (c : Dev nD) : (insOf m c).wo = m ((c.tc : Thread nD τ).loc main_arg4) := V1_of m c main_arg4 (by decide)
theorem insOf_k (c : Dev nD) (b : Fin 2) (j : Fin 128) (n : Fin 256) : (insOf m c).k (ix3 b j n) =
    m ((c.tc : Thread nD τ).loc main_arg2) (ix4 b j ⟨4 * c.val + n.val / 64, by have : c.val < 16 := c.isLt; omega⟩ ⟨n.val % 64, by omega⟩) :=
  (congrFun (V1_v10 m c) _).trans (headsOf_apply c _ b j n)
theorem insOf_v (c : Dev nD) (b : Fin 2) (j : Fin 128) (n : Fin 256) : (insOf m c).v (ix3 b j n) =
    m ((c.tc : Thread nD τ).loc main_arg3) (ix4 b j ⟨4 * c.val + n.val / 64, by have : c.val < 16 := c.isLt; omega⟩ ⟨n.val % 64, by omega⟩) :=
  (congrFun (V1_v15 m c) _).trans (headsOf_apply c _ b j n)

/-- The result is the launch's, its rows cut into the two batch entries. -/
theorem V3_v17 (c : Dev nD) (b : Fin 2) (i : Fin 128) (n : Fin 512) :
    V3 m (outs m) c main_v17 (ix3 b i n) = outOf (insOf m) (ix2 ⟨128 * b.val + i.val, by omega⟩ n) := by
  have h : V3 m (outs m) c main_v17 = shapeCast S2x128x512 (outOf (insOf m)) shapeCasts_S256x512_S2x128x512 := by
    rw [← V2_v16 m c]
    unfold V3 hostOps1
    after_reads_simp
    rfl
  rw [h]
  pointwise
  congr 2
  apply Fin.ext
  show b.val * 128 + i.val = 128 * b.val + i.val
  omega

end Cert.KernelIdeal

end
-- ==== Proof.KernelValue.lean ====
/-
  What one device's two stores of partial products are, as functions of what it loads: for each of its four heads the
  attention of the head, the four heads side by side, times the device's rows of the output weight.
-/
module

public import proofs.«01_k».proof.Proof.Talk
public import proofs.«01_k».proof.Proof.Blocks
public import Idealize.ShloMosaic.Lib.Pointwise

@[expose] public section

noncomputable section

namespace Cert.KernelIdeal

open Idealize.ShloMosaic Idealize.ShloMosaic.TcCoe Cert.KernelIdeal.Gen
open Facts

variable {F : FTy → Type} [FloatOps F]

/-- The block of 64 positions that each position is in, by floor division. -/
def blockNo (i : IVec S128x128 32) : IVec S128x128 32 :=
  select
    (andi
      (cmpi .ne (subi (extui 32 (cmpi .sgt i (broadcast S128x128 0#32)) natLt_1_32) (extui 32 (cmpi .slt i (broadcast S128x128 0#32)) natLt_1_32))
        (broadcast S128x128 (Scalar.subi (Scalar.extui (Scalar.cmpi .sgt 64#32 0#32)) (Scalar.extui (Scalar.cmpi .slt 64#32 0#32)))))
      (cmpi .ne (remsi i (broadcast S128x128 64#32)) (broadcast S128x128 0#32)))
    (subi (divsi i (broadcast S128x128 64#32)) (broadcast S128x128 1#32))
    (divsi i (broadcast S128x128 64#32))

/-- Where a query sees a key: the key's block is not after the query's. -/
def seen : IVec S128x128 1 :=
  cmpi .sle (blockNo (iota .tc S128x128 32 [1] iota_S128x128_d1_w32)) (blockNo (iota .tc S128x128 32 [0] iota_S128x128_d0_w32))

/-- One head's weights before they are divided by their sum. -/
def rawOf (q k : FVec F S128x64 .bf16) : FVec F S128x128 .f32 :=
  select seen (exp (matmul dot_S128x64_S128x64_S128x128_1_1_0_0_n_n none q k (constant S128x128 .f32 0x00000000#32)))
    (broadcast S128x128 (Scalar.ofBits .f32 0x00000000#32))

/-- One head's attention. -/
def headOf (q k v : FVec F S128x64 .bf16) : FVec F S128x64 .f32 :=
  matmul dot_S128x128_S128x64_S128x64_1_0_0_1_n_n none
    (truncf .bf16
      (mulf (rawOf q k)
        (broadcastTo S128x128
          (divf (broadcast S128x1 (Scalar.ofBits .f32 0x3F800000#32))
            (shapeCast S128x1 (multiReduction .add [1] S128 (rawOf q k) 0x00000000#32 reduces_S128x128_S128 (.inl rfl) rfl) shapeCasts_S128_S128x1))
          broadcasts_S128x1_S128x128))
      bitsLt_bf16_f32)
    v (constant S128x64 .f32 0x00000000#32)

/-- Four heads side by side, times the output weight. -/
def mixOf (o₀ o₁ o₂ o₃ : FVec F S128x64 .f32) (wo : Vec F S256x512 .bf16) : FVec F S128x512 .bf16 :=
  shapeCast S128x512
    (truncf .bf16
      (matmul dot_S128x256_S256x512_S128x512_1_0_0_1_n_n none
        (truncf .bf16
          (concatenate S128x256 1 [⟨S128x64, o₀⟩, ⟨S128x64, o₁⟩, ⟨S128x64, o₂⟩, ⟨S128x64, o₃⟩]
            concatenates_S128x64_S128x64_S128x64_S128x64_S128x256_d1)
          bitsLt_bf16_f32)
        (shapeCast S256x512 wo shapeCasts_S256x512_S256x512) (constant S128x512 .f32 0x00000000#32))
      bitsLt_bf16_f32)
    shapeCasts_S128x512_S128x512

/-- The attention of the head whose columns start at `o`, over the rows that start at `r` of the scaled queries. -/
def attend (r o : ℕ) (hq : S256x256.Slices ![r, o] S128x64) (h : S128x256.Slices ![0, o] S128x64)
    (q : FVec F S256x256 .bf16) (k v : Vec F S1x128x256 .bf16) : FVec F S128x64 .f32 :=
  headOf (extractStridedSlice S128x64 ![r, o] q hq)
    (extractStridedSlice S128x64 ![0, o] (shapeCast S128x256 k shapeCasts_S1x128x256_S128x256) h)
    (extractStridedSlice S128x64 ![0, o] (shapeCast S128x256 v shapeCasts_S1x128x256_S128x256) h)

theorem topPay_eq (x : Vec F S2x128x512 .bf16) (wq : Vec F S512x256 .bf16) (k v : Vec F S1x128x256 .bf16) (wo : Vec F S256x512 .bf16) :
    topPay x wq k v wo =
      mixOf (attend 0 0 slices_S256x256_o0_0_S128x64 slices_S128x256_o0_0_S128x64 (k0_pay1 x wq) k v)
        (attend 0 64 slices_S256x256_o0_64_S128x64 slices_S128x256_o0_64_S128x64 (k0_pay1 x wq) k v)
        (attend 0 128 slices_S256x256_o0_128_S128x64 slices_S128x256_o0_128_S128x64 (k0_pay1 x wq) k v)
        (attend 0 192 slices_S256x256_o0_192_S128x64 slices_S128x256_o0_192_S128x64 (k0_pay1 x wq) k v) wo := rfl

theorem botPay_eq (x : Vec F S2x128x512 .bf16) (wq : Vec F S512x256 .bf16) (k v : Vec F S1x128x256 .bf16) (wo : Vec F S256x512 .bf16) :
    botPay x wq k v wo =
      mixOf (attend 128 0 slices_S256x256_o128_0_S128x64 slices_S128x256_o0_0_S128x64 (k0_pay1 x wq) k v)
        (attend 128 64 slices_S256x256_o128_64_S128x64 slices_S128x256_o0_64_S128x64 (k0_pay1 x wq) k v)
        (attend 128 128 slices_S256x256_o128_128_S128x64 slices_S128x256_o0_128_S128x64 (k0_pay1 x wq) k v)
        (attend 128 192 slices_S256x256_o128_192_S128x64 slices_S128x256_o0_192_S128x64 (k0_pay1 x wq) k v) wo := rfl

end Cert.KernelIdeal

end
-- ==== Proof.Softmax.lean ====
/-
  Two ways of writing the softmax of a masked row of scores, and why they agree when the scores are finite: the kernel
  exponentiates the scores as they are, puts 0 where the mask is off and multiplies by the reciprocal of the sum; the
  reference puts −∞ where the mask is off, subtracts the row's maximum, exponentiates and divides by the sum. Both
  over the extended reals, where −∞ − M is −∞ and its exponential 0.
-/
module

public import Idealize.ShloMosaic.PureOps.Ideal
public import Mathlib.Algebra.BigOperators.Fin

@[expose] public section

noncomputable section

namespace Cert.Softmax

open Idealize.ShloMosaic

variable {n : ℕ} (s : Fin n → EReal) (keep : Fin n → Prop) [DecidablePred keep]

/-- The kernel's unnormalised weight: the exponential of the score where the mask is on, 0 elsewhere. -/
def raw (j : Fin n) : EReal := if keep j then Ideal.exp (s j) else 0
/-- The kernel's weight. -/
def kerW (j : Fin n) : EReal := raw s keep j * Ideal.div 1 (∑ l, raw s keep l)

/-- The reference's score: −∞ where the mask is off. -/
def cut (j : Fin n) : EReal := if keep j then s j else ⊥
/-- The row's maximum. -/
def top : EReal := Finset.univ.fold max ⊥ fun j => cut s keep j
/-- The reference's unnormalised weight. -/
def shifted (j : Fin n) : EReal := Ideal.exp (cut s keep j - top s keep)
/-- The reference's weight. -/
def refW (j : Fin n) : EReal := Ideal.div (shifted s keep j) (∑ l, shifted s keep l)

/-- A sum of coerced reals is the coerced sum. -/
theorem sum_coe {ι : Type*} (S : Finset ι) (f : ι → ℝ) : (∑ l ∈ S, (f l : EReal)) = ((∑ l ∈ S, f l : ℝ) : EReal) := by
  classical
  induction S using Finset.induction_on with
  | empty => simp
  | insert a S h ih => rw [Finset.sum_insert h, Finset.sum_insert h, ih, EReal.coe_add]

section Real
variable {keep} (r : Fin n → ℝ) (j₀ : Fin n)

/-- The maximum of a row of finite scores with some entry kept is finite. -/
theorem top_real (h : keep j₀) : ∃ M : ℝ, top (fun j => (r j : EReal)) keep = M := by
  have hlt : top (fun j => (r j : EReal)) keep < ⊤ := by
    unfold top
    rw [Finset.fold_max_lt]
    refine ⟨bot_lt_top, fun j _ => ?_⟩
    unfold cut
    split
    · exact EReal.coe_lt_top _
    · exact bot_lt_top
  have hge : (r j₀ : EReal) ≤ top (fun j => (r j : EReal)) keep := by
    unfold top
    rw [Finset.le_fold_max]
    exact .inr ⟨j₀, Finset.mem_univ _, by simp [cut, h]⟩
  exact ⟨_, (EReal.coe_toReal hlt.ne fun hb => by simp [hb] at hge).symm⟩

/-- Where all scores are finite and some entry is kept, the two weights are the same. -/
theorem kerW_eq_refW (h : keep j₀) (j : Fin n) : kerW (fun j => (r j : EReal)) keep j = refW (fun j => (r j : EReal)) keep j := by
  obtain ⟨M, hM⟩ := top_real r j₀ h
  have hraw : ∀ l, raw (fun j => (r j : EReal)) keep l = ((if keep l then Real.exp (r l) else 0 : ℝ) : EReal) := fun l => by
    unfold raw
    split <;> simp
  have hsh : ∀ l, shifted (fun j => (r j : EReal)) keep l = (((if keep l then Real.exp (r l) else 0) * Real.exp (-M) : ℝ) : EReal) := fun l => by
    unfold shifted cut
    rw [hM]
    split
    · rw [← EReal.coe_sub, Ideal.exp_coe, sub_eq_add_neg, Real.exp_add]
    · simp
  have hpos : (0 : ℝ) < ∑ l, if keep l then Real.exp (r l) else 0 :=
    Finset.sum_pos' (fun l _ => by split <;> [exact (Real.exp_pos _).le; exact le_rfl])
      ⟨j₀, Finset.mem_univ _, by rw [if_pos h]; exact Real.exp_pos _⟩
  unfold kerW refW
  simp only [hraw, hsh, sum_coe, ← Finset.sum_mul]
  rw [Ideal.div_coe hpos.ne', Ideal.div_coe (mul_pos hpos (Real.exp_pos _)).ne', one_mul, ← EReal.coe_mul, ← EReal.coe_mul]
  congr 1
  have he := (Real.exp_pos (-M)).ne'
  have hp := hpos.ne'
  field_simp

end Real

/-- A score whose queries are scaled before the product with the key, over finite entries: the finite number the score is. -/
theorem scaled_before {n l : ℕ} (q : Fin n → ℝ) (w : Fin l → Fin n → ℝ) (k : Fin l → ℝ) (c : ℝ) :
    (∑ e, (∑ m, (q m : EReal) * (w e m : EReal)) * (c : EReal) * (k e : EReal)) = (((∑ e, (∑ m, q m * w e m) * k e) * c : ℝ) : EReal) := by
  simp only [← EReal.coe_mul, sum_coe, Finset.sum_mul]
  exact congrArg _ (Finset.sum_congr rfl fun e _ => Finset.sum_congr rfl fun m _ => by ring)

/-- The same number, the product scaled. -/
theorem scaled_after {n l : ℕ} (q : Fin n → ℝ) (w : Fin l → Fin n → ℝ) (k : Fin l → ℝ) (c : ℝ) :
    (∑ e, (∑ m, (q m : EReal) * (w e m : EReal)) * (k e : EReal)) * (c : EReal) = (((∑ e, (∑ m, q m * w e m) * k e) * c : ℝ) : EReal) := by
  simp only [← EReal.coe_mul, sum_coe]

/-- A sum over 4096 columns, 256 of each of 16 devices. -/
theorem sum_devices (f : Fin 4096 → EReal) : (∑ y, f y) = ∑ d : Fin 16, ∑ x : Fin 256, f ⟨256 * d.val + x.val, by omega⟩ := by
  rw [← Fintype.sum_prod_type', ← (finProdFinEquiv (m := 16) (n := 256)).sum_comp]
  exact Finset.sum_congr rfl fun p _ => congrArg f (Fin.ext (Nat.add_comm _ _))

end Cert.Softmax

end
-- ==== Proof.DeviceValue.lean ====
/-
  The kernel's payloads read at an index over the extended reals, and from them one device's partial product as sums.
-/
module

public import proofs.«01_k».proof.Proof.KernelValue
public import proofs.«01_k».proof.Proof.Softmax
public import Idealize.ShloMosaic.Lib.Pipeline.ValueKit.Tiles

@[expose] public section

set_option maxRecDepth 16384

noncomputable section

namespace Cert.KernelIdeal

open Idealize.ShloMosaic Idealize.ShloMosaic.TcCoe Cert.KernelIdeal.Gen
open Facts Cert.Softmax

/-- Query `i` sees key `j`. -/
abbrev sees (i : Fin 128) : Fin 128 → Prop := fun j => j.val / 64 ≤ i.val / 64

/-- What the constant of the scaling denotes. -/
abbrev eighth : EReal := Ideal.ofBits .f32 0x3E000000#32

/-- The block number along the keys. -/
theorem blockNo_key (i j : Fin 128) : blockNo (iota .tc S128x128 32 [1] iota_S128x128_d1_w32) (ix2 i j) = BitVec.ofNat 32 (j.val / 64) := by
  pointwise [blockNo]
  revert j; decide

/-- The block number along the queries. -/
theorem blockNo_query (i j : Fin 128) : blockNo (iota .tc S128x128 32 [0] iota_S128x128_d0_w32) (ix2 i j) = BitVec.ofNat 32 (i.val / 64) := by
  pointwise [blockNo]
  revert i; decide

/-- Two block numbers compare as numbers. -/
theorem sle_blocks (a b : Fin 2) : IntOp.cmpi .sle (BitVec.ofNat 32 a.val) (BitVec.ofNat 32 b.val) = BitVec.ofBool (decide (a.val ≤ b.val)) := by
  revert a b; decide

theorem seen_apply (i j : Fin 128) : seen (ix2 i j) = BitVec.ofBool (decide (sees i j)) := by
  have h : seen (ix2 i j) = IntOp.cmpi .sle (BitVec.ofNat 32 (j.val / 64)) (BitVec.ofNat 32 (i.val / 64)) := by
    rw [← blockNo_key i j, ← blockNo_query i j]; rfl
  rw [h]
  exact sle_blocks ⟨j.val / 64, by omega⟩ ⟨i.val / 64, by omega⟩

theorem raw_apply (q k : FVec Ideal S128x64 .bf16) (i j : Fin 128) :
    rawOf q k (ix2 i j) = raw (fun j => ∑ e : Fin 64, q (ix2 i e) * k (ix2 j e)) (sees i) j := by
  pointwise [rawOf]
  rw [seen_apply, raw]
  by_cases h : sees i j
  · rw [if_pos h, decide_eq_true h]; rfl
  · rw [if_neg h, decide_eq_false h]; rfl

theorem head_apply (q k v : FVec Ideal S128x64 .bf16) (i : Fin 128) (d : Fin 64) :
    headOf q k v (ix2 i d) = ∑ j : Fin 128, kerW (fun j => ∑ e : Fin 64, q (ix2 i e) * k (ix2 j e)) (sees i) j * v (ix2 j d) := by
  pointwise [headOf]
  simp only [raw_apply, kerW]

/-- The scaled queries. -/
theorem queries_apply (x : Vec Ideal S2x128x512 .bf16) (wq : Vec Ideal S512x256 .bf16) (r n : Fin 256) :
    k0_pay1 x wq (ix2 r n) = (∑ m : Fin 512, x (ix3 ⟨r.val / 128, by omega⟩ ⟨r.val % 128, by omega⟩ m) * wq (ix2 m n)) * eighth := by
  pointwise [k0_pay1]

theorem attend_apply (r o : ℕ) (hr : r ≤ 128) (ho : o ≤ 192) (hq : S256x256.Slices ![r, o] S128x64) (h : S128x256.Slices ![0, o] S128x64)
    (q : FVec Ideal S256x256 .bf16) (k v : Vec Ideal S1x128x256 .bf16) (i : Fin 128) (d : Fin 64) :
    attend r o hq h q k v (ix2 i d) =
      ∑ j : Fin 128, kerW (fun j => ∑ e : Fin 64, q (ix2 ⟨r + i.val, by omega⟩ ⟨o + e.val, by omega⟩) * k (ix3 0 j ⟨o + e.val, by omega⟩)) (sees i) j
        * v (ix3 0 j ⟨o + d.val, by omega⟩) := by
  rw [attend, head_apply]
  pointwise

theorem mix_apply (o₀ o₁ o₂ o₃ : FVec Ideal S128x64 .f32) (wo : Vec Ideal S256x512 .bf16) (r : Fin 128) (n : Fin 512)
    (f : Fin 256 → EReal) (h₀ : ∀ d : Fin 64, o₀ (ix2 r d) = f ⟨0 + d.val, by omega⟩) (h₁ : ∀ d : Fin 64, o₁ (ix2 r d) = f ⟨64 + d.val, by omega⟩)
    (h₂ : ∀ d : Fin 64, o₂ (ix2 r d) = f ⟨128 + d.val, by omega⟩) (h₃ : ∀ d : Fin 64, o₃ (ix2 r d) = f ⟨192 + d.val, by omega⟩) :
    mixOf o₀ o₁ o₂ o₃ wo (ix2 r n) = ∑ x : Fin 256, f x * wo (ix2 x n) := by
  pointwise [mixOf]
  refine Finset.sum_congr rfl fun x _ => ?_
  congr 1
  split
  · rw [h₀]; congr 1; apply Fin.ext; simp only; omega
  · split
    · rw [h₁]; congr 1; apply Fin.ext; simp only; omega
    · split
      · rw [h₂]; congr 1; apply Fin.ext; simp only; omega
      · rw [h₃]; congr 1; apply Fin.ext; simp only; omega

theorem total_apply (p : Vec Ideal S16x16x512 .bf16) (r : Fin 16) (n : Fin 512) : k0_pay71 p (ix2 r n) = ∑ d : Fin 16, p (ix3 d r n) := by
  pointwise [k0_pay71]

/-! ## One device -/

variable (a : Ins Ideal)

theorem rdX_eq : rdX a = a.x := Memref.readAt_unit_zero (Elt Ideal) cc0_stg0_0 (by decide) _ _
theorem rdWq_eq : rdWq a = a.wq := Memref.readAt_unit_zero (Elt Ideal) cc0_stg1_0 (by decide) _ _
theorem rdWo_eq : rdWo a = a.wo := Memref.readAt_unit_zero (Elt Ideal) cc0_stg4_0 (by decide) _ _

/-- Where a load of one of the two batch entries reads. -/
theorem batch_idx (b : Fin 2) {off : Fin 3 → ℕ} (e : off = ![b.val, 0, 0]) (inb : ∀ a, off a + S1x128x256.size a ≤ S2x128x256.size a)
    (j : Fin 128) (n : Fin 256) : (Rect.unit (s := S2x128x256) off S1x128x256.size inb).idx (ix3 0 j n) = ix3 b j n := by
  subst e
  funext x
  apply Fin.ext
  refine (Rect.idx_unit_val _ _ _ _ _).trans ?_
  match x with
  | 0 => rfl
  | 1 => exact Nat.zero_add _
  | 2 => exact Nat.zero_add _

theorem rdK0_apply (j : Fin 128) (n : Fin 256) : rdK0 a (ix3 0 j n) = a.k (ix3 0 j n) := congrArg a.k (batch_idx 0 rfl _ j n)
theorem rdK1_apply (j : Fin 128) (n : Fin 256) : rdK1 a (ix3 0 j n) = a.k (ix3 1 j n) := congrArg a.k (batch_idx 1 rfl _ j n)
theorem rdV0_apply (j : Fin 128) (n : Fin 256) : rdV0 a (ix3 0 j n) = a.v (ix3 0 j n) := congrArg a.v (batch_idx 0 rfl _ j n)
theorem rdV1_apply (j : Fin 128) (n : Fin 256) : rdV1 a (ix3 0 j n) = a.v (ix3 1 j n) := congrArg a.v (batch_idx 1 rfl _ j n)

/-- The kernel's score of key `j` for query `r` of batch entry `b`, in the head whose columns start at `o`. -/
def score (b : Fin 2) (r : Fin 128) (o : ℕ) (ho : o ≤ 192) (j : Fin 128) : EReal :=
  ∑ e : Fin 64, (∑ m : Fin 512, a.x (ix3 b r m) * a.wq (ix2 m ⟨o + e.val, by omega⟩)) * eighth * a.k (ix3 b j ⟨o + e.val, by omega⟩)

theorem score_congr (b : Fin 2) (r : Fin 128) {o o' : ℕ} (e : o = o') {h : o ≤ 192} : score a b r o h = score a b r o' (e ▸ h) := by
  subst e; rfl

/-- What one head makes of query `r` of batch entry `b`, at column `x` of the device's 256. -/
def context (b : Fin 2) (r : Fin 128) (x : Fin 256) : EReal :=
  ∑ j : Fin 128, kerW (score a b r (64 * (x.val / 64)) (by omega)) (sees r) j * a.v (ix3 b j x)

/-- A head of one device, read from what it loads of batch entry `b`. -/
theorem attend_context (b : Fin 2) (o : ℕ) (t : Fin 4) (ho : o = 64 * t.val) (q₀ : ℕ) (hq₀ : q₀ = 128 * b.val) (hq : S256x256.Slices ![q₀, o] S128x64)
    (h : S128x256.Slices ![0, o] S128x64) (k v : Vec Ideal S1x128x256 .bf16) (hk : ∀ j n, k (ix3 0 j n) = a.k (ix3 b j n))
    (hv : ∀ j n, v (ix3 0 j n) = a.v (ix3 b j n)) (r : Fin 128) (d : Fin 64) :
    attend q₀ o hq h (k0_pay1 a.x a.wq) k v (ix2 r d) = context a b r ⟨o + d.val, by omega⟩ := by
  rw [attend_apply q₀ o (by omega) (by omega), context]
  simp only [queries_apply, hk, hv]
  have e : o = 64 * ((o + d.val) / 64) := by omega
  have e₁ : (q₀ + r.val) / 128 = b.val := by omega
  have e₂ : (q₀ + r.val) % 128 = r.val := by omega
  simp only [e₁, e₂, Fin.eta, score_congr a b r e.symm]
  rfl

theorem top_apply (r : Fin 128) (n : Fin 512) : topOf a (ix2 r n) = ∑ x : Fin 256, context a 0 r x * a.wo (ix2 x n) := by
  rw [topOf, topPay_eq, rdX_eq, rdWq_eq, rdWo_eq]
  exact mix_apply _ _ _ _ _ r n (context a 0 r)
    (fun d => attend_context a 0 0 0 rfl 0 rfl _ _ _ _ (rdK0_apply a) (rdV0_apply a) r d)
    (fun d => attend_context a 0 64 1 rfl 0 rfl _ _ _ _ (rdK0_apply a) (rdV0_apply a) r d)
    (fun d => attend_context a 0 128 2 rfl 0 rfl _ _ _ _ (rdK0_apply a) (rdV0_apply a) r d)
    (fun d => attend_context a 0 192 3 rfl 0 rfl _ _ _ _ (rdK0_apply a) (rdV0_apply a) r d)

theorem bot_apply (r : Fin 128) (n : Fin 512) : botOf a (ix2 r n) = ∑ x : Fin 256, context a 1 r x * a.wo (ix2 x n) := by
  rw [botOf, botPay_eq, rdX_eq, rdWq_eq, rdWo_eq]
  exact mix_apply _ _ _ _ _ r n (context a 1 r)
    (fun d => attend_context a 1 0 0 rfl 128 rfl _ _ _ _ (rdK1_apply a) (rdV1_apply a) r d)
    (fun d => attend_context a 1 64 1 rfl 128 rfl _ _ _ _ (rdK1_apply a) (rdV1_apply a) r d)
    (fun d => attend_context a 1 128 2 rfl 128 rfl _ _ _ _ (rdK1_apply a) (rdV1_apply a) r d)
    (fun d => attend_context a 1 192 3 rfl 128 rfl _ _ _ _ (rdK1_apply a) (rdV1_apply a) r d)

/-- One device's partial product: the contexts of its four heads against its rows of the output weight. -/
theorem acc_apply (b : Fin 2) (r : Fin 128) (n : Fin 512) :
    accOf a (ix2 ⟨128 * b.val + r.val, by omega⟩ n) = ∑ x : Fin 256, context a b r x * a.wo (ix2 x n) := by
  unfold accOf
  match b with
  | 0 =>
    refine (dif_pos (show 128 * 0 + r.val < 128 by omega)).trans ?_
    rw [← top_apply]
    exact congrArg (topOf a) (congrArg (fun y => ix2 y n) (Fin.ext (by show 128 * 0 + r.val = r.val; omega)))
  | 1 =>
    refine (dif_neg (show ¬128 * 1 + r.val < 128 by omega)).trans ?_
    rw [← bot_apply]
    exact congrArg (botOf a) (congrArg (fun y => ix2 y n) (Fin.ext (by show 128 * 1 + r.val - 128 = r.val; omega)))

/-! ## All devices -/

/-- The result of the kernel: the sum over the devices of their partial products. -/
theorem out_apply (I : Dev nD → Ins Ideal) (b : Fin 2) (r : Fin 128) (n : Fin 512) :
    outOf I (ix2 ⟨128 * b.val + r.val, by omega⟩ n) = ∑ d : Fin 16, ∑ x : Fin 256, context (I d) b r x * (I d).wo (ix2 x n) := by
  have h : outOf I (ix2 ⟨128 * b.val + r.val, by omega⟩ n) =
      k0_pay71 (rsOf I ⟨(128 * b.val + r.val) / 16, by omega⟩) (ix2 ⟨(128 * b.val + r.val) % 16, by omega⟩ n) := rfl
  rw [h, total_apply]
  refine Finset.sum_congr rfl fun d _ => ?_
  rw [← acc_apply]
  exact congrArg (accOf (I d)) (congrArg (fun y => ix2 y n)
    (Fin.ext (by show 16 * ((128 * b.val + r.val) / 16) + (128 * b.val + r.val) % 16 = 128 * b.val + r.val; omega)))

end Cert.KernelIdeal

end
-- ==== Proof.Consts.lean ====
/-
  What the float constants of the programs denote.
-/
module

public import Idealize.ShloMosaic.PureOps.Ideal

@[expose] public section

noncomputable section

namespace Cert

open Idealize.ShloMosaic

theorem bits_negInf : Ideal.ofBits .f32 0xFF800000#32 = ⊥ := by simp [Ideal.ofBits, Ideal.ieee]
theorem bits_inf : Ideal.ofBits .f32 0x7F800000#32 = ⊤ := by simp [Ideal.ofBits, Ideal.ieee]
theorem bits_eighth : Ideal.ofBits .f32 0x3E000000#32 = ((1 / 8 : ℝ) : EReal) := by
  simp [Ideal.ofBits, Ideal.ieee, -EReal.coe_mul]; norm_num

end Cert

end
-- ==== Proof.RefValue.lean ====
/-
  The reference's result, its steps named, and read at an index over the extended reals.
-/
module

public import proofs.«01_k».proof.Proof.Gen.ReferenceIdeal.Run
public import proofs.«01_k».proof.Proof.Softmax
public import proofs.«01_k».proof.Proof.Consts
public import Idealize.ShloMosaic.Lib.Pointwise
public import Idealize.ShloMosaic.Lib.Routing.OpsOrder

@[expose] public section

set_option maxRecDepth 16384

noncomputable section

namespace Cert.ReferenceIdeal

open Idealize.ShloMosaic Idealize.ShloMosaic.TcCoe Cert.ReferenceIdeal.Gen
open Facts Cert.Softmax

variable {F : FTy → Type} [FloatOps F]

/-- The block of 64 positions that each position is in, by floor division. -/
def blockNo : IVec S128 32 :=
  select
    (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

/-- Where a query sees a key: the key's block is not after the query's. -/
def seen : IVec S128x128 1 :=
  cmpi .sle (broadcastInDim S128x128 ![0, 1] bcast_S1x128_S128x128_0_1 (broadcastInDim S1x128 ![1] bcast_S128_S1x128_1 blockNo))
    (broadcastInDim S128x128 ![0, 1] bcast_S128x1_S128x128_0_1 (broadcastInDim S128x1 ![0] bcast_S128_S128x1_0 blockNo))

/-- Which queries see some key. -/
def anySeen : IVec S128 1 := Host.reduce IntOp.ori seen (constantI S_ 1 0#1) reducesTo_S128x128_S128_d1 h_S_

variable (x : FVec F S2x128x512 .bf16) (wq : FVec F S512x4096 .bf16) (k v : FVec F S2x128x64x64 .bf16) (wo : FVec F S4096x512 .bf16)

/-- The masked scores. -/
def scores : FVec F S2x64x128x128 .f32 :=
  select
    (broadcastInDim S2x64x128x128 ![0, 1, 2, 3] bcast_S1x1x128x128_S2x64x128x128_0_1_2_3
      (broadcastInDim S1x1x128x128 ![2, 3] bcast_S128x128_S1x1x128x128_2_3 seen))
    (mulf
      (Host.dotGeneral dot_S2x128x64x64_S2x128x64x64_S2x64x128x128_3_3_1_1_02_02 none
        (shapeCast _ (Host.dotGeneral dot_S2x128x512_S512x4096_S2x128x4096_2_0_01_1_n_n none (extf .f32 x bitsLt_bf16_f32) (extf .f32 wq bitsLt_bf16_f32))
          shapeCasts_S2x128x4096_S2x128x64x64)
        (extf .f32 k bitsLt_bf16_f32))
      (broadcastInDim S2x64x128x128 ![] bcast_S_S2x64x128x128 (constant S_ .f32 0x3E000000#32)))
    (broadcastInDim S2x64x128x128 ![] bcast_S_S2x64x128x128 (id (constant S_ .f32 0xFF800000#32)))

/-- The exponentials of the scores less their row's maximum. -/
def exps : FVec F S2x64x128x128 .f32 :=
  Host.exp (subf (scores x wq k)
    (broadcastInDim S2x64x128x128 ![0, 1, 2, 3] bcast_S2x64x128x1_S2x64x128x128_0_1_2_3
      (broadcastInDim S2x64x128x1 ![0, 1, 2] bcast_S2x64x128_S2x64x128x1_0_1_2
        (Host.reduce FloatOps.maximumf (scores x wq k) (constant S_ .f32 0xFF800000#32) reducesTo_S2x64x128x128_S2x64x128_d3 h_S_))))

/-- The weights. -/
def weights : FVec F S2x64x128x128 .f32 :=
  select
    (broadcastInDim S2x64x128x128 ![0, 1, 2, 3] bcast_S1x1x128x1_S2x64x128x128_0_1_2_3
      (broadcastInDim S1x1x128x1 ![2] bcast_S128_S1x1x128x1_2 anySeen))
    (Host.divf (exps x wq k)
      (broadcastInDim S2x64x128x128 ![0, 1, 2, 3] bcast_S2x64x128x1_S2x64x128x128_0_1_2_3
        (select
          (broadcastInDim S2x64x128x1 ![0, 1, 2, 3] bcast_S1x1x128x1_S2x64x128x1_0_1_2_3 (broadcastInDim S1x1x128x1 ![2] bcast_S128_S1x1x128x1_2 anySeen))
          (broadcastInDim S2x64x128x1 ![0, 1, 2] bcast_S2x64x128_S2x64x128x1_0_1_2
            (Host.reduceAdd (exps x wq k) (constant S_ .f32 0x00000000#32) reducesTo_S2x64x128x128_S2x64x128_d3 h_S_))
          (broadcastInDim S2x64x128x1 ![] bcast_S_S2x64x128x1 (id (constant S_ .f32 0x3F800000#32))))))
    (broadcastInDim S2x64x128x128 ![] bcast_S_S2x64x128x128 (id (constant S_ .f32 0x00000000#32)))

/-- The result. -/
def result : FVec F S2x128x512 .bf16 :=
  truncf .bf16
    (Host.dotGeneral dot_S2x128x4096_S4096x512_S2x128x512_2_0_01_1_n_n none
      (shapeCast _
        (transpose S2x128x64x64 [0, 3, 1, 2]
          (Host.dotGeneral dot_S2x128x64x64_S2x64x128x128_S2x64x64x128_1_3_3_2_02_01 none (extf .f32 v bitsLt_bf16_f32) (weights x wq k))
          transposes_S2x64x64x128_S2x128x64x64_0_3_1_2)
        shapeCasts_S2x128x64x64_S2x128x4096)
      (extf .f32 wo bitsLt_bf16_f32))
    bitsLt_bf16_f32

/-- The run's result is that of its arguments. -/
theorem res_eq (m : (ℓ : Loc nD τ sig) → Buf (Elt F) ℓ) (c : Dev nD) :
    Value.res_main_v39 m c =
      result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-! ## Over the extended reals -/

theorem blockNo_apply (j : Fin 128) : blockNo (ix1 j) = BitVec.ofNat 32 (j.val / 64) := by
  pointwise [blockNo]
  revert j; decide

/-- Query `i` sees key `j`. -/
abbrev sees (i : Fin 128) : Fin 128 → Prop := fun j => j.val / 64 ≤ i.val / 64

/-- Two block numbers compare as numbers. -/
theorem sle_blocks (a b : Fin 2) : IntOp.cmpi .sle (BitVec.ofNat 32 a.val) (BitVec.ofNat 32 b.val) = BitVec.ofBool (decide (a.val ≤ b.val)) := by
  revert a b; decide

theorem seen_apply (i j : Fin 128) : seen (ix2 i j) = BitVec.ofBool (decide (sees i j)) := by
  pointwise [seen]
  rw [blockNo_apply, blockNo_apply]
  exact sle_blocks ⟨j.val / 64, by omega⟩ ⟨i.val / 64, by omega⟩

/-- Every query sees the first key. -/
theorem sees_first (i : Fin 128) : sees i 0 := Nat.zero_le _

theorem anySeen_apply (i : Fin 128) : anySeen (ix1 i) = 1#1 := by
  pointwise [anySeen]
  rw [Routing.fold_ori]
  exact ⟨0, Finset.mem_univ _, by rw [seen_apply, decide_eq_true (sees_first i)]; rfl⟩

section
variable (x : FVec Ideal S2x128x512 .bf16) (wq : FVec Ideal S512x4096 .bf16) (k v : FVec Ideal S2x128x64x64 .bf16) (wo : FVec Ideal S4096x512 .bf16)

/-- The score of key `j` for query `i` in head `h`, before the mask. -/
def score (b : Fin 2) (h : Fin 64) (i j : Fin 128) : EReal :=
  (∑ e : Fin 64, (∑ m : Fin 512, x (ix3 b i m) * wq (ix2 m ⟨h.val * 64 + e.val, by omega⟩)) * k (ix4 b j h e)) * Ideal.ofBits .f32 0x3E000000#32

theorem scores_apply (b : Fin 2) (h : Fin 64) (i j : Fin 128) :
    scores x wq k (ix4 b h i j) = cut (score x wq k b h i) (sees i) j := by
  pointwise [scores]
  rw [seen_apply, cut]
  by_cases hs : sees i j
  · rw [if_pos hs, decide_eq_true hs]; rfl
  · rw [if_neg hs, decide_eq_false hs]; exact bits_negInf

theorem exps_apply (b : Fin 2) (h : Fin 64) (i j : Fin 128) :
    exps x wq k (ix4 b h i j) = shifted (score x wq k b h i) (sees i) j := by
  pointwise [exps]
  simp only [scores_apply, bits_negInf]
  rfl

theorem weights_apply (b : Fin 2) (h : Fin 64) (i j : Fin 128) :
    weights x wq k (ix4 b h i j) = refW (score x wq k b h i) (sees i) j := by
  pointwise [weights]
  simp only [anySeen_apply, exps_apply]
  rfl

/-- The reference's result: the contexts of the sixty-four heads against the output weight. -/
theorem result_apply (b : Fin 2) (i : Fin 128) (n : Fin 512) :
    result x wq k v wo (ix3 b i n) =
      ∑ y : Fin 4096, (∑ j : Fin 128, v (ix4 b j ⟨y.val / 64, by omega⟩ ⟨y.val % 64, by omega⟩)
        * refW (score x wq k b ⟨y.val / 64, by omega⟩ i) (sees i) j) * wo (ix2 y n) := by
  pointwise [result]
  simp only [weights_apply]

end

end Cert.ReferenceIdeal

end
-- ==== Proof.Value.lean ====
/-
  The kernel's result is the reference's, over the extended reals, where the activations, the query weight and the keys are
  finite: the scores are then finite, so the two ways of writing the softmax agree, and the rest is the order of sums.
-/
module

public import proofs.«01_k».proof.Proof.DeviceValue
public import proofs.«01_k».proof.Proof.RefValue

@[expose] public section

noncomputable section

namespace Cert

open Idealize.ShloMosaic Cert.Softmax

/-- An extended real that is a real number. -/
abbrev Finite (x : EReal) : Prop := ∃ r : ℝ, x = r

section
variable (I : Fin 16 → KernelIdeal.Ins Ideal)
  (x : FVec Ideal ReferenceIdeal.S2x128x512 .bf16) (wq : FVec Ideal ReferenceIdeal.S512x4096 .bf16) (k v : FVec Ideal ReferenceIdeal.S2x128x64x64 .bf16)
  (wo : FVec Ideal ReferenceIdeal.S4096x512 .bf16)

/-- Each device holds the activations, its columns of the query weight, its heads of the keys and the values, its rows of the
    output weight. -/
structure Dealt : Prop where
  x : ∀ d b i l, (I d).x (ix3 b i l) = x (ix3 b i l)
  wq : ∀ (d : Fin 16) (l : Fin 512) (n : Fin 256), (I d).wq (ix2 l n) = wq (ix2 l ⟨256 * d.val + n.val, by omega⟩)
  k : ∀ (d : Fin 16) (b : Fin 2) (j : Fin 128) (n : Fin 256),
    (I d).k (ix3 b j n) = k (ix4 b j ⟨4 * d.val + n.val / 64, by omega⟩ ⟨n.val % 64, by omega⟩)
  v : ∀ (d : Fin 16) (b : Fin 2) (j : Fin 128) (n : Fin 256),
    (I d).v (ix3 b j n) = v (ix4 b j ⟨4 * d.val + n.val / 64, by omega⟩ ⟨n.val % 64, by omega⟩)
  wo : ∀ (d : Fin 16) (n : Fin 256) (l : Fin 512), (I d).wo (ix2 n l) = wo (ix2 ⟨256 * d.val + n.val, by omega⟩ l)

variable {I x wq k v wo} (D : Dealt I x wq k v wo)
  (hx : ∀ b i l, Finite (x (ix3 b i l))) (hw : ∀ l n, Finite (wq (ix2 l n))) (hk : ∀ b j h e, Finite (k (ix4 b j h e)))

include D hx hw hk in
/-- The two scores of a head are the same finite numbers. -/
theorem scores_finite (d : Fin 16) (t : Fin 4) (b : Fin 2) (i : Fin 128) : ∃ r : Fin 128 → ℝ,
    KernelIdeal.score (I d) b i (64 * t.val) (by omega) = (fun j => (r j : EReal)) ∧
    ReferenceIdeal.score x wq k b ⟨4 * d.val + t.val, by omega⟩ i = (fun j => (r j : EReal)) := by
  choose X hX using hx
  choose W hW using hw
  choose K hK using hk
  refine ⟨fun j => (∑ e : Fin 64, (∑ l : Fin 512, X b i l * W l ⟨(4 * d.val + t.val) * 64 + e.val, by omega⟩)
    * K b j ⟨4 * d.val + t.val, by omega⟩ e) * (1 / 8), funext fun j => ?_, funext fun j => ?_⟩
  · rw [KernelIdeal.score, ← scaled_before (X b i) (fun e l => W l ⟨(4 * d.val + t.val) * 64 + e.val, by omega⟩)]
    refine Finset.sum_congr rfl fun e _ => ?_
    rw [KernelIdeal.eighth, bits_eighth, D.k, hK]
    have e₁ : 4 * d.val + (64 * t.val + e.val) / 64 = 4 * d.val + t.val := by omega
    have e₂ : (64 * t.val + e.val) % 64 = e.val := by omega
    have e₃ : 256 * d.val + (64 * t.val + e.val) = (4 * d.val + t.val) * 64 + e.val := by omega
    simp only [e₁, e₂, Fin.eta, D.x, D.wq, hX, hW, e₃]
  · rw [ReferenceIdeal.score, bits_eighth, ← scaled_after (X b i) (fun e l => W l ⟨(4 * d.val + t.val) * 64 + e.val, by omega⟩)]
    simp only [hX, hW, hK]

include D hx hw hk in
/-- What one head makes of a query is what the reference's head makes of it. -/
theorem context_eq (d : Fin 16) (n : Fin 256) (b : Fin 2) (i : Fin 128) :
    KernelIdeal.context (I d) b i n =
      ∑ j : Fin 128, v (ix4 b j ⟨(256 * d.val + n.val) / 64, by omega⟩ ⟨(256 * d.val + n.val) % 64, by omega⟩)
        * refW (ReferenceIdeal.score x wq k b ⟨(256 * d.val + n.val) / 64, by omega⟩ i) (ReferenceIdeal.sees i) j := by
  obtain ⟨r, h₁, h₂⟩ := scores_finite D hx hw hk d ⟨n.val / 64, by omega⟩ b i
  have e₁ : (256 * d.val + n.val) / 64 = 4 * d.val + n.val / 64 := by omega
  have e₂ : (256 * d.val + n.val) % 64 = n.val % 64 := by omega
  simp only [e₁, e₂]
  refine Finset.sum_congr rfl fun j _ => ?_
  rw [h₂, D.v, mul_comm, ← kerW_eq_refW r 0 (ReferenceIdeal.sees_first i)]
  exact congrArg (fun s => _ * kerW s (ReferenceIdeal.sees i) j) h₁

include D hx hw hk in
/-- The kernel's result at an index is the reference's. -/
theorem out_eq_result (b : Fin 2) (i : Fin 128) (n : Fin 512) :
    KernelIdeal.outOf I (ix2 ⟨128 * b.val + i.val, by omega⟩ n) = ReferenceIdeal.result x wq k v wo (ix3 b i n) := by
  rw [KernelIdeal.out_apply, ReferenceIdeal.result_apply, sum_devices]
  refine Finset.sum_congr rfl fun d _ => Finset.sum_congr rfl fun y _ => ?_
  rw [context_eq D hx hw hk, D.wo]

end

end Cert

end
-- ==== Proof.Pre.lean ====
/-
  What the precondition says of one device's arrays: every activation, query weight and key it holds is a real number.
-/
module

public import proofs.«01_k».proof.Pre_finite_scores_KernelIdeal
public import proofs.«01_k».proof.Pre_finite_scores_ReferenceIdeal
public import proofs.«01_k».proof.Proof.Value

@[expose] public section

noncomputable section

namespace Cert

open Idealize.ShloMosaic

theorem pre_facts_kernel : Pre_finite_scores_KernelIdeal.Facts where
  bitsLt_bf16_f32 := by decide
  bcast_S_S2x128x512 := by decide
  bcast_S_S512x256 := by decide
  bcast_S_S2x128x64x64 := by decide

theorem pre_facts_reference : Pre_finite_scores_ReferenceIdeal.Facts where
  bitsLt_bf16_f32 := by decide
  bcast_S_S2x128x512 := by decide
  bcast_S_S512x4096 := by decide
  bcast_S_S2x128x64x64 := by decide

/-- An extended real whose absolute value compares below +∞ is a real number. -/
theorem finite_of_abs_lt (x : EReal) (h : Ideal.cmp .olt (max x (-x)) (Ideal.ofBits .f32 0x7F800000#32) = 1#1) : Finite x := by
  rw [bits_inf] at h
  induction x using EReal.rec with
  | bot => simp [Ideal.cmp] at h
  | coe r => exact ⟨r, rfl⟩
  | top => simp [Ideal.cmp] at h

section
open Pre_finite_scores_KernelIdeal
variable [Pre_finite_scores_KernelIdeal.Facts] (x : FVec Ideal S2x128x512 .bf16) (wq : FVec Ideal S512x256 .bf16)
  (k v : FVec Ideal S2x128x64x64 .bf16) (wo : FVec Ideal S256x512 .bf16)

theorem finite_x (h : (fn x wq k v wo).1 = fun _ => 1#1) (b : Fin 2) (i : Fin 128) (l : Fin 512) : Finite (x (ix3 b i l)) := by
  have h := congrFun h (ix3 b i l)
  pointwise [fn] at h
  exact finite_of_abs_lt _ h

theorem finite_wq (h : (fn x wq k v wo).2.1 = fun _ => 1#1) (l : Fin 512) (n : Fin 256) : Finite (wq (ix2 l n)) := by
  have h := congrFun h (ix2 l n)
  pointwise [fn] at h
  exact finite_of_abs_lt _ h

theorem finite_k (h : (fn x wq k v wo).2.2 = fun _ => 1#1) (b : Fin 2) (j : Fin 128) (t e : Fin 64) : Finite (k (ix4 b j t e)) := by
  have h := congrFun h (ix4 b j t e)
  pointwise [fn] at h
  exact finite_of_abs_lt _ h

end

end Cert

end
-- ==== Proof.Agree.lean ====
/-
  The value claim: from memories that hold the same arguments, the reference's whole and each device's block of them, the
  kernel's result on every device is the reference's.
-/
module

public import proofs.«01_k».proof.Defs
public import proofs.«01_k».proof.Proof.Gen.KernelIdeal
public import proofs.«01_k».proof.Proof.Whole
public import proofs.«01_k».proof.Proof.HostValue
public import proofs.«01_k».proof.Proof.Pre

@[expose] public section

noncomputable section

namespace Cert

open Idealize.ShloMosaic Idealize.ShloMosaic.TcCoe Idealize.SL.Sem

/-- Columns of a block of the query weight. -/
theorem block_cols (c : Fin 16) (w : FVec Ideal ReferenceIdeal.S512x4096 .bf16) (l : Fin 512) (n : Fin 256) :
    Layout.block ⟨2, ![512, 256]⟩ ⟨2, ![512, 4096]⟩ 1 16 c w (by decide) (ix2 l n) = w (ix2 l ⟨256 * c.val + n.val, by omega⟩) := by
  rw [Layout.block_apply]
  congr 1
  funext a
  apply Fin.ext
  match a with
  | 0 => rfl
  | 1 => exact congrArg (· + n.val) (Nat.mul_comm _ _)

/-- Rows of a block of the output weight. -/
theorem block_rows (c : Fin 16) (w : FVec Ideal ReferenceIdeal.S4096x512 .bf16) (n : Fin 256) (l : Fin 512) :
    Layout.block ⟨2, ![256, 512]⟩ ⟨2, ![4096, 512]⟩ 0 16 c w (by decide) (ix2 n l) = w (ix2 ⟨256 * c.val + n.val, by omega⟩ l) := by
  rw [Layout.block_apply]
  congr 1
  funext a
  apply Fin.ext
  match a with
  | 0 => exact congrArg (· + n.val) (Nat.mul_comm _ _)
  | 1 => rfl

theorem algebraic : algebraic_KernelIdeal_ReferenceIdeal_pre_finite_scores_KernelIdeal (hKernelIdeal := KernelIdeal.Gen.facts)
    (hReferenceIdeal := ReferenceIdeal.Gen.facts) (hPre_finite_scores_KernelIdeal := pre_facts_kernel) := by
  intro m g m' g' hp hm
  haveI := pre_facts_kernel
  have D : Dealt (KernelIdeal.insOf m) (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1))
      (m' (((0 : Dev ReferenceIdeal.nD).tc : Thread ReferenceIdeal.nD ReferenceIdeal.τ).loc ReferenceIdeal.main_arg2))
      (m' (((0 : Dev ReferenceIdeal.nD).tc : Thread ReferenceIdeal.nD ReferenceIdeal.τ).loc ReferenceIdeal.main_arg3))
      (m' (((0 : Dev ReferenceIdeal.nD).tc : Thread ReferenceIdeal.nD ReferenceIdeal.τ).loc ReferenceIdeal.main_arg4)) :=
    { x := fun d b i l => congrFun ((KernelIdeal.insOf_x m d).trans (hm d).1) _
      wq := fun d l n => (congrFun ((KernelIdeal.insOf_wq m d).trans (hm d).2.1) _).trans (block_cols d _ l n)
      k := fun d b j n => (KernelIdeal.insOf_k m d b j n).trans (congrFun (hm d).2.2.1 _)
      v := fun d b j n => (KernelIdeal.insOf_v m d b j n).trans (congrFun (hm d).2.2.2.1 _)
      wo := fun d n l => (congrFun ((KernelIdeal.insOf_wo m d).trans (hm d).2.2.2.2) _).trans (block_rows d _ n l) }
  have hx := fun b i l => (congrFun (hm 0).1 (ix3 b i l)) ▸ finite_x _ _ _ _ _ (hp 0).1 b i l
  have hk := fun b j t e => (congrFun (hm 0).2.2.1 (ix4 b j t e)) ▸ finite_k _ _ _ _ _ (hp 0).2.2 b j t e
  have hw : ∀ (l : Fin 512) (n : Fin 4096),
      Finite (m' (((0 : Dev ReferenceIdeal.nD).tc : Thread ReferenceIdeal.nD ReferenceIdeal.τ).loc ReferenceIdeal.main_arg1) (ix2 l n)) := fun l n => by
    obtain ⟨r, hr⟩ := finite_wq _ _ _ _ _ (hp ⟨n.val / 256, by show n.val / 256 < 16; omega⟩).2.1 l ⟨n.val % 256, by omega⟩
    refine ⟨r, Eq.trans ?_ hr⟩
    rw [(hm ⟨n.val / 256, by show n.val / 256 < 16; omega⟩).2.1]
    refine Eq.trans (congrArg _ (congrArg (ix2 l) (Fin.ext ?_))) (block_cols ⟨n.val / 256, by omega⟩ _ l ⟨n.val % 256, by omega⟩).symm
    exact (Nat.div_add_mod n.val 256).symm
  refine ⟨ReferenceIdeal.Value.res_main_v39 m' 0, ?_, ?_⟩
  · refine (θ_run KernelIdeal.defs _ _).mono (fun r h c => ?_) (KernelIdeal.run_main (F := Ideal) m g)
    obtain ⟨⟨h₀, h₁, h₂, h₃, h₄⟩, hv⟩ := h.1 c
    refine ⟨hv.trans (funext fun j => ?_), h₀, h₁, h₂, h₃, h₄⟩
    obtain ⟨b, i, n, rfl⟩ : ∃ (b : Fin 2) (i : Fin 128) (n : Fin 512), j = ix3 b i n := ⟨j 0, j 1, j 2, eq_ix3 j⟩
    rw [ReferenceIdeal.res_eq]
    exact (KernelIdeal.V3_v17 m c b i n).trans (out_eq_result D hx hw hk b i n)
  · exact (θ_run ReferenceIdeal.defs _ _).mono (fun r h => h 0) (ReferenceIdeal.Value.run (F := Ideal) m' g')

end Cert

end
-- ==== Proof.lean ====
/- The assembled claim: the two programs' frames from one run over any float values, the reference's frame from its own text, and
   the agreement of the two results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Whole
public import proofs.«01_k».proof.Proof.Agree
public import Idealize.ShloMosaic.Adequacy
public import Idealize.ShloMosaic.Init

@[expose] public section

noncomputable section

namespace Cert.Proof

open Idealize.ShloMosaic Idealize.SL.Sem

theorem frame_kernelIdeal : Cert.quiescent_KernelIdeal := fun m ρ _ => Cert.KernelIdeal.run_frame (F := Ideal) m ρ

set_option maxRecDepth 100000 in
set_option smartUnfolding false in
/-- The two prints of the program define the same calls. -/
theorem same_defs {F : FTy → Type} [FloatOps F] :
    Cert.Kernel.defs (F := F) = Cert.KernelIdeal.defs (F := F) := rfl

theorem frame_kernel : Cert.quiescent_Kernel := fun m ρ _ =>
  Eq.mpr (congrArg (fun D => θ_run D (onTc Cert.KernelIdeal.main) ⟨m, fun _ => 0, ρ⟩ _) same_defs)
    (Cert.KernelIdeal.run_frame (F := Bits) m ρ)

theorem frame_reference : Cert.quiescent_ReferenceIdeal := fun m ρ _ =>
  (θ_run Cert.ReferenceIdeal.defs _ _).mono (fun r h => show _ ∧ _ from ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.pre_facts_kernel, Cert.pre_facts_reference, frame_kernel, frame_kernelIdeal, fun m ρ _ => frame_kernelIdeal m ρ trivial,
  frame_reference, fun m ρ _ => frame_reference m ρ trivial, trivial, Cert.algebraic⟩

end Cert.Proof

end
